-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_depths_increase [hPre_depths_increase : Cert.Pre_depths_increase.Facts] (m : (ℓ : Loc Cert.KernelIdeal.nD Cert.KernelIdeal.τ Cert.KernelIdeal.sig) → Buf (Elt Ideal) ℓ) : Prop :=
  ∀ c : Dev Cert.KernelIdeal.nD,
    (Cert.Pre_depths_increase.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_depths_increase [hPre_depths_increase : Cert.Pre_depths_increase.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_depths_increase.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_depths_increase [hKernelIdeal : Cert.KernelIdeal.Facts] [hPre_depths_increase : Cert.Pre_depths_increase.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_depths_increase m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_depths_increase [hReferenceIdeal : Cert.ReferenceIdeal.Facts] [hPre_depths_increase : Cert.Pre_depths_increase.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_depths_increase m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_depths_increase [hKernelIdeal : Cert.KernelIdeal.Facts] [hReferenceIdeal : Cert.ReferenceIdeal.Facts] [hPre_depths_increase : Cert.Pre_depths_increase.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_depths_increase m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_depths_increase : Cert.Pre_depths_increase.Facts),
    quiescent_Kernel (hKernel := hKernel)
    ∧ quiescent_KernelIdeal (hKernelIdeal := hKernelIdeal)
    ∧ quiescent_KernelIdeal_pre_depths_increase (hKernelIdeal := hKernelIdeal) (hPre_depths_increase := hPre_depths_increase)
    ∧ quiescent_ReferenceIdeal (hReferenceIdeal := hReferenceIdeal)
    ∧ quiescent_ReferenceIdeal_pre_depths_increase (hReferenceIdeal := hReferenceIdeal) (hPre_depths_increase := hPre_depths_increase)
    ∧ preserves_Kernel_KernelIdeal
    ∧ algebraic_KernelIdeal_ReferenceIdeal_pre_depths_increase (hKernelIdeal := hKernelIdeal) (hReferenceIdeal := hReferenceIdeal) (hPre_depths_increase := hPre_depths_increase)
-- ==== Pre_depths_increase.lean ====
abbrev S65536x128 : Shape := ⟨2, ![65536, 128]⟩
abbrev S65536x127 : Shape := ⟨2, ![65536, 127]⟩
abbrev S_ : Shape := ⟨0, ![]⟩

class Facts : Prop where
  slices_S65536x128_S65536x127_0_1 : S65536x128.Slices ![0, 1] S65536x127
  slices_S65536x128_S65536x127_0_0 : S65536x128.Slices ![0, 0] S65536x127
  bcast_S_S65536x127 : S_.BroadcastsInDim S65536x127 (![] : Fin 0 → Fin S65536x127.rank)
  reducesTo_S65536x127_S_d0_1 : S65536x127.ReducesTo [0, 1] S_
  h_S_ : 0 < S_.numel

variable [Facts]

def fn {F : FTy → Type} [FloatOps F] (main_arg0 : FVec F S65536x128 .f32) (main_arg1 : FVec F S65536x128 .f32) : IVec S_ 1 :=
  let main_v0 : FVec F S65536x127 .f32 := (extractStridedSlice S65536x127 ![0, 1] · slices_S65536x128_S65536x127_0_1) main_arg0
  let main_v1 : FVec F S65536x127 .f32 := (extractStridedSlice S65536x127 ![0, 0] · slices_S65536x128_S65536x127_0_0) main_arg0
  let main_v2 : FVec F S65536x127 .f32 := subf main_v0 main_v1
  let main_cst : FVec F S_ .f32 := constant S_ .f32 0x00000000#32
  let main_v3 : FVec F S65536x127 .f32 := broadcastInDim S65536x127 ![] bcast_S_S65536x127 main_cst
  let main_v4 : IVec S65536x127 1 := cmpf .oge main_v2 main_v3
  let main_c : IVec S_ 1 := constantI S_ 1 1#1
  let main_v5 : IVec S_ 1 := (fun x v => Host.reduce IntOp.andi x v reducesTo_S65536x127_S_d0_1 h_S_) main_v4 main_c
  main_v5
-- ==== Kernel.lean ====
abbrev S65536x128 : Shape := ⟨2, ![65536, 128]⟩
abbrev S_ : Shape := ⟨0, ![]⟩
abbrev S63 : Shape := ⟨1, ![63]⟩
abbrev S1 : Shape := ⟨1, ![1]⟩
abbrev S64 : Shape := ⟨1, ![64]⟩
abbrev S65536x64 : Shape := ⟨2, ![65536, 64]⟩
abbrev S16x128 : Shape := ⟨2, ![16, 128]⟩
abbrev S128x16 : Shape := ⟨2, ![128, 16]⟩
abbrev S16x64 : Shape := ⟨2, ![16, 64]⟩
abbrev S16 : Shape := ⟨1, ![16]⟩

abbrev nBuf : Table → Nat
  | .hbm => 26
  | .local .scVector .vmem => 5
  | _ => 0

abbrev bufTy : (tb : Table) → Fin (nBuf tb) → BufTy
  | .hbm, ⟨0, _⟩ => ⟨S65536x128, .f32⟩
  | .hbm, ⟨1, _⟩ => ⟨S65536x128, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S63, .f32⟩
  | .hbm, ⟨10, _⟩ => ⟨S_, .f32⟩
  | .hbm, ⟨11, _⟩ => ⟨S63, .f32⟩
  | .hbm, ⟨12, _⟩ => ⟨S63, .f32⟩
  | .hbm, ⟨13, _⟩ => ⟨S1, .f32⟩
  | .hbm, ⟨14, _⟩ => ⟨S_, .f32⟩
  | .hbm, ⟨15, _⟩ => ⟨S63, .f32⟩
  | .hbm, ⟨16, _⟩ => ⟨S63, .f32⟩
  | .hbm, ⟨17, _⟩ => ⟨S63, .f32⟩
  | .hbm, ⟨18, _⟩ => ⟨S63, .f32⟩
  | .hbm, ⟨19, _⟩ => ⟨S1, .f32⟩
  | .hbm, ⟨20, _⟩ => ⟨S63, .f32⟩
  | .hbm, ⟨21, _⟩ => ⟨S63, .f32⟩
  | .hbm, ⟨22, _⟩ => ⟨S63, .f32⟩
  | .hbm, ⟨23, _⟩ => ⟨S1, .f32⟩
  | .hbm, ⟨24, _⟩ => ⟨S64, .f32⟩
  | .hbm, ⟨25, _⟩ => ⟨S65536x64, .f32⟩
  | .local .scVector .vmem, ⟨0, _⟩ => ⟨S16x128, .f32⟩
  | .local .scVector .vmem, ⟨1, _⟩ => ⟨S16x128, .f32⟩
  | .local .scVector .vmem, ⟨2, _⟩ => ⟨S128x16, .f32⟩
  | .local .scVector .vmem, ⟨3, _⟩ => ⟨S16x64, .f32⟩
  | .local .scVector .vmem, ⟨4, _⟩ => ⟨S64, .f32⟩
  | _, _ => ⟨S65536x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_arg0_scv : Ref sig .scVector := ⟨.hbm, 0, rfl⟩
abbrev main_arg1_scv : Ref sig .scVector := ⟨.hbm, 1, rfl⟩
abbrev main_v0_scv : Ref sig .scVector := ⟨.hbm, 24, rfl⟩
abbrev main_v1_scv : Ref sig .scVector := ⟨.hbm, 25, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c128_i32 : BitVec 32 := 128#32
  let v4 : BitVec 32 := Scalar.addi c0_i32_1 c128_i32
  let c1_i32 : BitVec 32 := 1#32
  ⟨c0_i32_1, v4, c1_i32⟩
def k0_off1 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32 : BitVec 32 := 2048#32
  let v6 : BitVec 32 := Scalar.muli v1 c2048_i32
  let c0_i32_1 : BitVec 32 := 0#32
  let c1_i32 : BitVec 32 := 1#32
  let arg11 : BitVec 32 := Scf.iv c0_i32_1 c1_i32 k0_t1
  let c16_i32_3 : BitVec 32 := 16#32
  let v7 : BitVec 32 := Scalar.muli arg11 c16_i32_3
  let v8 : BitVec 32 := Scalar.addi v6 v7
  let c0_i32_12_r1 : BitVec 32 := 0#32
  ![v8.toNat, 0]

def k0_chk1 (v2 : IVec S16 32) (v3 : IVec S16 32) : Prop :=
  (∀ a x, ((![v2, v3] : Fin 2 → IVec S16 32) a x).toNat < S16x128.size a)
theorem k0_idx1_inb : ∀ (v2 : IVec S16 32) (v3 : IVec S16 32) (k0_hw1 : k0_chk1 v2 v3), ∀ a x, ((![v2, v3] : Fin 2 → IVec S16 32) a x).toNat < S16x128.size a := fun v2 v3 k0_hw1 => k0_hw1
@[reducible] def k0_t2_loop : Scf.Loop 32 :=
  let c0_i32_4 : BitVec 32 := 0#32
  let c127_i32 : BitVec 32 := 127#32
  let v11 : BitVec 32 := Scalar.addi c0_i32_4 c127_i32
  let c1_i32_5 : BitVec 32 := 1#32
  ⟨c0_i32_4, v11, c1_i32_5⟩

def k0_chk2 (v2 : IVec S16 32) (v15 : IVec S16 32) : Prop :=
  (∀ a x, ((![v15, v2] : Fin 2 → IVec S16 32) a x).toNat < S128x16.size a)
theorem k0_idx2_inb : ∀ (v2 : IVec S16 32) (v15 : IVec S16 32) (k0_hw2 : k0_chk2 v2 v15), ∀ a x, ((![v15, v2] : Fin 2 → IVec S16 32) a x).toNat < S128x16.size a := fun v2 v15 k0_hw2 => k0_hw2

def k0_chk3 (v2 : IVec S16 32) (v22 : IVec S16 32) : Prop :=
  (∀ a x, ((![v2, v22] : Fin 2 → IVec S16 32) a x).toNat < S16x128.size a)
theorem k0_idx3_inb : ∀ (v2 : IVec S16 32) (v22 : IVec S16 32) (k0_hw3 : k0_chk3 v2 v22), ∀ a x, ((![v2, v22] : Fin 2 → IVec S16 32) a x).toNat < S16x128.size a := fun v2 v22 k0_hw3 => k0_hw3

def k0_chk4 (v2 : IVec S16 32) (v24 : IVec S16 32) : Prop :=
  (∀ a x, ((![v2, v24] : Fin 2 → IVec S16 32) a x).toNat < S16x128.size a)
theorem k0_idx4_inb : ∀ (v2 : IVec S16 32) (v24 : IVec S16 32) (k0_hw4 : k0_chk4 v2 v24), ∀ a x, ((![v2, v24] : Fin 2 → IVec S16 32) a x).toNat < S16x128.size a := fun v2 v24 k0_hw4 => k0_hw4
@[reducible] def k0_t3_loop : Scf.Loop 32 :=
  let c0_i32_8 : BitVec 32 := 0#32
  let c4_i32 : BitVec 32 := 4#32
  let v13 : BitVec 32 := Scalar.addi c0_i32_8 c4_i32
  let c1_i32_9 : BitVec 32 := 1#32
  ⟨c0_i32_8, v13, c1_i32_9⟩

def k0_chk6 (v2 : IVec S16 32) (v23 : IVec S16 32) : Prop :=
  (∀ a x, ((![v23, v2] : Fin 2 → IVec S16 32) a x).toNat < S128x16.size a)
theorem k0_idx6_inb : ∀ (v2 : IVec S16 32) (v23 : IVec S16 32) (k0_hw6 : k0_chk6 v2 v23), ∀ a x, ((![v23, v2] : Fin 2 → IVec S16 32) a x).toNat < S128x16.size a := fun v2 v23 k0_hw6 => k0_hw6

def k0_chk7 (v2 : IVec S16 32) (v32 : IVec S16 32) : Prop :=
  (∀ a x, ((![v32, v2] : Fin 2 → IVec S16 32) a x).toNat < S128x16.size a)
theorem k0_idx7_inb : ∀ (v2 : IVec S16 32) (v32 : IVec S16 32) (k0_hw7 : k0_chk7 v2 v32), ∀ a x, ((![v32, v2] : Fin 2 → IVec S16 32) a x).toNat < S128x16.size a := fun v2 v32 k0_hw7 => k0_hw7

def k0_chk8 (v2 : IVec S16 32) (v41 : IVec S16 32) : Prop :=
  (∀ a x, ((![v41, v2] : Fin 2 → IVec S16 32) a x).toNat < S128x16.size a)
theorem k0_idx8_inb : ∀ (v2 : IVec S16 32) (v41 : IVec S16 32) (k0_hw8 : k0_chk8 v2 v41), ∀ a x, ((![v41, v2] : Fin 2 → IVec S16 32) a x).toNat < S128x16.size a := fun v2 v41 k0_hw8 => k0_hw8

def k0_chk9 (v2 : IVec S16 32) (v50 : IVec S16 32) : Prop :=
  (∀ a x, ((![v50, v2] : Fin 2 → IVec S16 32) a x).toNat < S128x16.size a)
theorem k0_idx9_inb : ∀ (v2 : IVec S16 32) (v50 : IVec S16 32) (k0_hw9 : k0_chk9 v2 v50), ∀ a x, ((![v50, v2] : Fin 2 → IVec S16 32) a x).toNat < S128x16.size a := fun v2 v50 k0_hw9 => k0_hw9

def k0_chk10 (v2 : IVec S16 32) (v59 : IVec S16 32) : Prop :=
  (∀ a x, ((![v59, v2] : Fin 2 → IVec S16 32) a x).toNat < S128x16.size a)
theorem k0_idx10_inb : ∀ (v2 : IVec S16 32) (v59 : IVec S16 32) (k0_hw10 : k0_chk10 v2 v59), ∀ a x, ((![v59, v2] : Fin 2 → IVec S16 32) a x).toNat < S128x16.size a := fun v2 v59 k0_hw10 => k0_hw10

def k0_chk11 (v2 : IVec S16 32) (v68 : IVec S16 32) : Prop :=
  (∀ a x, ((![v68, v2] : Fin 2 → IVec S16 32) a x).toNat < S128x16.size a)
theorem k0_idx11_inb : ∀ (v2 : IVec S16 32) (v68 : IVec S16 32) (k0_hw11 : k0_chk11 v2 v68), ∀ a x, ((![v68, v2] : Fin 2 → IVec S16 32) a x).toNat < S128x16.size a := fun v2 v68 k0_hw11 => k0_hw11

def k0_chk12 (v2 : IVec S16 32) (v77 : IVec S16 32) : Prop :=
  (∀ a x, ((![v77, v2] : Fin 2 → IVec S16 32) a x).toNat < S128x16.size a)
theorem k0_idx12_inb : ∀ (v2 : IVec S16 32) (v77 : IVec S16 32) (k0_hw12 : k0_chk12 v2 v77), ∀ a x, ((![v77, v2] : Fin 2 → IVec S16 32) a x).toNat < S128x16.size a := fun v2 v77 k0_hw12 => k0_hw12

def k0_chk13 (v2 : IVec S16 32) (v87 : IVec S16 32) : Prop :=
  (∀ a x, ((![v87, v2] : Fin 2 → IVec S16 32) a x).toNat < S128x16.size a) ∧
  (∀ a x, ((![v2, v87] : Fin 2 → IVec S16 32) a x).toNat < S16x128.size a)
theorem k0_idx13_inb : ∀ (v2 : IVec S16 32) (v87 : IVec S16 32) (k0_hw13 : k0_chk13 v2 v87), ∀ a x, ((![v87, v2] : Fin 2 → IVec S16 32) a x).toNat < S128x16.size a := fun v2 v87 k0_hw13 => k0_hw13.1
theorem k0_idx15_inb : ∀ (v2 : IVec S16 32) (v87 : IVec S16 32) (k0_hw13 : k0_chk13 v2 v87), ∀ a x, ((![v2, v87] : Fin 2 → IVec S16 32) a x).toNat < S16x128.size a := fun v2 v87 k0_hw13 => k0_hw13.2

def k0_chk14 (v2 : IVec S16 32) (v89 : IVec S16 32) : Prop :=
  (∀ a x, ((![v89, v2] : Fin 2 → IVec S16 32) a x).toNat < S128x16.size a) ∧
  (∀ a x, ((![v2, v89] : Fin 2 → IVec S16 32) a x).toNat < S16x128.size a)
theorem k0_idx14_inb : ∀ (v2 : IVec S16 32) (v89 : IVec S16 32) (k0_hw14 : k0_chk14 v2 v89), ∀ a x, ((![v89, v2] : Fin 2 → IVec S16 32) a x).toNat < S128x16.size a := fun v2 v89 k0_hw14 => k0_hw14.1
theorem k0_idx16_inb : ∀ (v2 : IVec S16 32) (v89 : IVec S16 32) (k0_hw14 : k0_chk14 v2 v89), ∀ a x, ((![v2, v89] : Fin 2 → IVec S16 32) a x).toNat < S16x128.size a := fun v2 v89 k0_hw14 => k0_hw14.2

def k0_chk5 (v2 : IVec S16 32) (v17 : IVec S16 32) : Prop :=
  (∀ a x, ((![v17] : Fin 1 → IVec S16 32) a x).toNat < S64.size a) ∧
  (∀ a x, ((![v2, v17] : Fin 2 → IVec S16 32) a x).toNat < S16x64.size a)
theorem k0_idx5_inb : ∀ (v2 : IVec S16 32) (v17 : IVec S16 32) (k0_hw5 : k0_chk5 v2 v17), ∀ a x, ((![v17] : Fin 1 → IVec S16 32) a x).toNat < S64.size a := fun v2 v17 k0_hw5 => k0_hw5.1
theorem k0_idx17_inb : ∀ (v2 : IVec S16 32) (v17 : IVec S16 32) (k0_hw5 : k0_chk5 v2 v17), ∀ a x, ((![v2, v17] : Fin 2 → IVec S16 32) a x).toNat < S16x64.size a := fun v2 v17 k0_hw5 => k0_hw5.2

def k0_chk16 (v2 : IVec S16 32) (v112 : IVec S16 32) : Prop :=
  (∀ a x, ((![v112, v2] : Fin 2 → IVec S16 32) a x).toNat < S128x16.size a)
theorem k0_idx19_inb : ∀ (v2 : IVec S16 32) (v112 : IVec S16 32) (k0_hw16 : k0_chk16 v2 v112), ∀ a x, ((![v112, v2] : Fin 2 → IVec S16 32) a x).toNat < S128x16.size a := fun v2 v112 k0_hw16 => k0_hw16

def k0_chk17 (v2 : IVec S16 32) (v121 : IVec S16 32) : Prop :=
  (∀ a x, ((![v121, v2] : Fin 2 → IVec S16 32) a x).toNat < S128x16.size a)
theorem k0_idx20_inb : ∀ (v2 : IVec S16 32) (v121 : IVec S16 32) (k0_hw17 : k0_chk17 v2 v121), ∀ a x, ((![v121, v2] : Fin 2 → IVec S16 32) a x).toNat < S128x16.size a := fun v2 v121 k0_hw17 => k0_hw17

def k0_chk18 (v2 : IVec S16 32) (v130 : IVec S16 32) : Prop :=
  (∀ a x, ((![v130, v2] : Fin 2 → IVec S16 32) a x).toNat < S128x16.size a)
theorem k0_idx21_inb : ∀ (v2 : IVec S16 32) (v130 : IVec S16 32) (k0_hw18 : k0_chk18 v2 v130), ∀ a x, ((![v130, v2] : Fin 2 → IVec S16 32) a x).toNat < S128x16.size a := fun v2 v130 k0_hw18 => k0_hw18

def k0_chk19 (v2 : IVec S16 32) (v139 : IVec S16 32) : Prop :=
  (∀ a x, ((![v139, v2] : Fin 2 → IVec S16 32) a x).toNat < S128x16.size a)
theorem k0_idx22_inb : ∀ (v2 : IVec S16 32) (v139 : IVec S16 32) (k0_hw19 : k0_chk19 v2 v139), ∀ a x, ((![v139, v2] : Fin 2 → IVec S16 32) a x).toNat < S128x16.size a := fun v2 v139 k0_hw19 => k0_hw19

def k0_chk20 (v2 : IVec S16 32) (v148 : IVec S16 32) : Prop :=
  (∀ a x, ((![v148, v2] : Fin 2 → IVec S16 32) a x).toNat < S128x16.size a)
theorem k0_idx23_inb : ∀ (v2 : IVec S16 32) (v148 : IVec S16 32) (k0_hw20 : k0_chk20 v2 v148), ∀ a x, ((![v148, v2] : Fin 2 → IVec S16 32) a x).toNat < S128x16.size a := fun v2 v148 k0_hw20 => k0_hw20

def k0_chk21 (v2 : IVec S16 32) (v157 : IVec S16 32) : Prop :=
  (∀ a x, ((![v157, v2] : Fin 2 → IVec S16 32) a x).toNat < S128x16.size a)
theorem k0_idx24_inb : ∀ (v2 : IVec S16 32) (v157 : IVec S16 32) (k0_hw21 : k0_chk21 v2 v157), ∀ a x, ((![v157, v2] : Fin 2 → IVec S16 32) a x).toNat < S128x16.size a := fun v2 v157 k0_hw21 => k0_hw21

def k0_chk22 (v2 : IVec S16 32) (v166 : IVec S16 32) : Prop :=
  (∀ a x, ((![v166, v2] : Fin 2 → IVec S16 32) a x).toNat < S128x16.size a)
theorem k0_idx25_inb : ∀ (v2 : IVec S16 32) (v166 : IVec S16 32) (k0_hw22 : k0_chk22 v2 v166), ∀ a x, ((![v166, v2] : Fin 2 → IVec S16 32) a x).toNat < S128x16.size a := fun v2 v166 k0_hw22 => k0_hw22

def k0_chk23 (v2 : IVec S16 32) (v176 : IVec S16 32) : Prop :=
  (∀ a x, ((![v176, v2] : Fin 2 → IVec S16 32) a x).toNat < S128x16.size a) ∧
  (∀ a x, ((![v2, v176] : Fin 2 → IVec S16 32) a x).toNat < S16x128.size a)
theorem k0_idx26_inb : ∀ (v2 : IVec S16 32) (v176 : IVec S16 32) (k0_hw23 : k0_chk23 v2 v176), ∀ a x, ((![v176, v2] : Fin 2 → IVec S16 32) a x).toNat < S128x16.size a := fun v2 v176 k0_hw23 => k0_hw23.1
theorem k0_idx28_inb : ∀ (v2 : IVec S16 32) (v176 : IVec S16 32) (k0_hw23 : k0_chk23 v2 v176), ∀ a x, ((![v2, v176] : Fin 2 → IVec S16 32) a x).toNat < S16x128.size a := fun v2 v176 k0_hw23 => k0_hw23.2

def k0_chk24 (v2 : IVec S16 32) (v178 : IVec S16 32) : Prop :=
  (∀ a x, ((![v178, v2] : Fin 2 → IVec S16 32) a x).toNat < S128x16.size a) ∧
  (∀ a x, ((![v2, v178] : Fin 2 → IVec S16 32) a x).toNat < S16x128.size a)
theorem k0_idx27_inb : ∀ (v2 : IVec S16 32) (v178 : IVec S16 32) (k0_hw24 : k0_chk24 v2 v178), ∀ a x, ((![v178, v2] : Fin 2 → IVec S16 32) a x).toNat < S128x16.size a := fun v2 v178 k0_hw24 => k0_hw24.1
theorem k0_idx29_inb : ∀ (v2 : IVec S16 32) (v178 : IVec S16 32) (k0_hw24 : k0_chk24 v2 v178), ∀ a x, ((![v2, v178] : Fin 2 → IVec S16 32) a x).toNat < S16x128.size a := fun v2 v178 k0_hw24 => k0_hw24.2

def k0_chk15 (v2 : IVec S16 32) (v106 : IVec S16 32) : Prop :=
  (∀ a x, ((![v106] : Fin 1 → IVec S16 32) a x).toNat < S64.size a) ∧
  (∀ a x, ((![v2, v106] : Fin 2 → IVec S16 32) a x).toNat < S16x64.size a)
theorem k0_idx18_inb : ∀ (v2 : IVec S16 32) (v106 : IVec S16 32) (k0_hw15 : k0_chk15 v2 v106), ∀ a x, ((![v106] : Fin 1 → IVec S16 32) a x).toNat < S64.size a := fun v2 v106 k0_hw15 => k0_hw15.1
theorem k0_idx30_inb : ∀ (v2 : IVec S16 32) (v106 : IVec S16 32) (k0_hw15 : k0_chk15 v2 v106), ∀ a x, ((![v2, v106] : Fin 2 → IVec S16 32) a x).toNat < S16x64.size a := fun v2 v106 k0_hw15 => k0_hw15.2

def k0_chk26 (v2 : IVec S16 32) (v201 : IVec S16 32) : Prop :=
  (∀ a x, ((![v201, v2] : Fin 2 → IVec S16 32) a x).toNat < S128x16.size a)
theorem k0_idx32_inb : ∀ (v2 : IVec S16 32) (v201 : IVec S16 32) (k0_hw26 : k0_chk26 v2 v201), ∀ a x, ((![v201, v2] : Fin 2 → IVec S16 32) a x).toNat < S128x16.size a := fun v2 v201 k0_hw26 => k0_hw26

def k0_chk27 (v2 : IVec S16 32) (v210 : IVec S16 32) : Prop :=
  (∀ a x, ((![v210, v2] : Fin 2 → IVec S16 32) a x).toNat < S128x16.size a)
theorem k0_idx33_inb : ∀ (v2 : IVec S16 32) (v210 : IVec S16 32) (k0_hw27 : k0_chk27 v2 v210), ∀ a x, ((![v210, v2] : Fin 2 → IVec S16 32) a x).toNat < S128x16.size a := fun v2 v210 k0_hw27 => k0_hw27

def k0_chk28 (v2 : IVec S16 32) (v219 : IVec S16 32) : Prop :=
  (∀ a x, ((![v219, v2] : Fin 2 → IVec S16 32) a x).toNat < S128x16.size a)
theorem k0_idx34_inb : ∀ (v2 : IVec S16 32) (v219 : IVec S16 32) (k0_hw28 : k0_chk28 v2 v219), ∀ a x, ((![v219, v2] : Fin 2 → IVec S16 32) a x).toNat < S128x16.size a := fun v2 v219 k0_hw28 => k0_hw28

def k0_chk29 (v2 : IVec S16 32) (v228 : IVec S16 32) : Prop :=
  (∀ a x, ((![v228, v2] : Fin 2 → IVec S16 32) a x).toNat < S128x16.size a)
theorem k0_idx35_inb : ∀ (v2 : IVec S16 32) (v228 : IVec S16 32) (k0_hw29 : k0_chk29 v2 v228), ∀ a x, ((![v228, v2] : Fin 2 → IVec S16 32) a x).toNat < S128x16.size a := fun v2 v228 k0_hw29 => k0_hw29

def k0_chk30 (v2 : IVec S16 32) (v237 : IVec S16 32) : Prop :=
  (∀ a x, ((![v237, v2] : Fin 2 → IVec S16 32) a x).toNat < S128x16.size a)
theorem k0_idx36_inb : ∀ (v2 : IVec S16 32) (v237 : IVec S16 32) (k0_hw30 : k0_chk30 v2 v237), ∀ a x, ((![v237, v2] : Fin 2 → IVec S16 32) a x).toNat < S128x16.size a := fun v2 v237 k0_hw30 => k0_hw30

def k0_chk31 (v2 : IVec S16 32) (v246 : IVec S16 32) : Prop :=
  (∀ a x, ((![v246, v2] : Fin 2 → IVec S16 32) a x).toNat < S128x16.size a)
theorem k0_idx37_inb : ∀ (v2 : IVec S16 32) (v246 : IVec S16 32) (k0_hw31 : k0_chk31 v2 v246), ∀ a x, ((![v246, v2] : Fin 2 → IVec S16 32) a x).toNat < S128x16.size a := fun v2 v246 k0_hw31 => k0_hw31

def k0_chk32 (v2 : IVec S16 32) (v255 : IVec S16 32) : Prop :=
  (∀ a x, ((![v255, v2] : Fin 2 → IVec S16 32) a x).toNat < S128x16.size a)
theorem k0_idx38_inb : ∀ (v2 : IVec S16 32) (v255 : IVec S16 32) (k0_hw32 : k0_chk32 v2 v255), ∀ a x, ((![v255, v2] : Fin 2 → IVec S16 32) a x).toNat < S128x16.size a := fun v2 v255 k0_hw32 => k0_hw32

def k0_chk33 (v2 : IVec S16 32) (v265 : IVec S16 32) : Prop :=
  (∀ a x, ((![v265, v2] : Fin 2 → IVec S16 32) a x).toNat < S128x16.size a) ∧
  (∀ a x, ((![v2, v265] : Fin 2 → IVec S16 32) a x).toNat < S16x128.size a)
theorem k0_idx39_inb : ∀ (v2 : IVec S16 32) (v265 : IVec S16 32) (k0_hw33 : k0_chk33 v2 v265), ∀ a x, ((![v265, v2] : Fin 2 → IVec S16 32) a x).toNat < S128x16.size a := fun v2 v265 k0_hw33 => k0_hw33.1
theorem k0_idx41_inb : ∀ (v2 : IVec S16 32) (v265 : IVec S16 32) (k0_hw33 : k0_chk33 v2 v265), ∀ a x, ((![v2, v265] : Fin 2 → IVec S16 32) a x).toNat < S16x128.size a := fun v2 v265 k0_hw33 => k0_hw33.2

def k0_chk34 (v2 : IVec S16 32) (v267 : IVec S16 32) : Prop :=
  (∀ a x, ((![v267, v2] : Fin 2 → IVec S16 32) a x).toNat < S128x16.size a) ∧
  (∀ a x, ((![v2, v267] : Fin 2 → IVec S16 32) a x).toNat < S16x128.size a)
theorem k0_idx40_inb : ∀ (v2 : IVec S16 32) (v267 : IVec S16 32) (k0_hw34 : k0_chk34 v2 v267), ∀ a x, ((![v267, v2] : Fin 2 → IVec S16 32) a x).toNat < S128x16.size a := fun v2 v267 k0_hw34 => k0_hw34.1
theorem k0_idx42_inb : ∀ (v2 : IVec S16 32) (v267 : IVec S16 32) (k0_hw34 : k0_chk34 v2 v267), ∀ a x, ((![v2, v267] : Fin 2 → IVec S16 32) a x).toNat < S16x128.size a := fun v2 v267 k0_hw34 => k0_hw34.2

def k0_chk25 (v2 : IVec S16 32) (v195 : IVec S16 32) : Prop :=
  (∀ a x, ((![v195] : Fin 1 → IVec S16 32) a x).toNat < S64.size a) ∧
  (∀ a x, ((![v2, v195] : Fin 2 → IVec S16 32) a x).toNat < S16x64.size a)
theorem k0_idx31_inb : ∀ (v2 : IVec S16 32) (v195 : IVec S16 32) (k0_hw25 : k0_chk25 v2 v195), ∀ a x, ((![v195] : Fin 1 → IVec S16 32) a x).toNat < S64.size a := fun v2 v195 k0_hw25 => k0_hw25.1
theorem k0_idx43_inb : ∀ (v2 : IVec S16 32) (v195 : IVec S16 32) (k0_hw25 : k0_chk25 v2 v195), ∀ a x, ((![v2, v195] : Fin 2 → IVec S16 32) a x).toNat < S16x64.size a := fun v2 v195 k0_hw25 => k0_hw25.2

def k0_chk36 (v2 : IVec S16 32) (v290 : IVec S16 32) : Prop :=
  (∀ a x, ((![v290, v2] : Fin 2 → IVec S16 32) a x).toNat < S128x16.size a)
theorem k0_idx45_inb : ∀ (v2 : IVec S16 32) (v290 : IVec S16 32) (k0_hw36 : k0_chk36 v2 v290), ∀ a x, ((![v290, v2] : Fin 2 → IVec S16 32) a x).toNat < S128x16.size a := fun v2 v290 k0_hw36 => k0_hw36

def k0_chk37 (v2 : IVec S16 32) (v299 : IVec S16 32) : Prop :=
  (∀ a x, ((![v299, v2] : Fin 2 → IVec S16 32) a x).toNat < S128x16.size a)
theorem k0_idx46_inb : ∀ (v2 : IVec S16 32) (v299 : IVec S16 32) (k0_hw37 : k0_chk37 v2 v299), ∀ a x, ((![v299, v2] : Fin 2 → IVec S16 32) a x).toNat < S128x16.size a := fun v2 v299 k0_hw37 => k0_hw37

def k0_chk38 (v2 : IVec S16 32) (v308 : IVec S16 32) : Prop :=
  (∀ a x, ((![v308, v2] : Fin 2 → IVec S16 32) a x).toNat < S128x16.size a)
theorem k0_idx47_inb : ∀ (v2 : IVec S16 32) (v308 : IVec S16 32) (k0_hw38 : k0_chk38 v2 v308), ∀ a x, ((![v308, v2] : Fin 2 → IVec S16 32) a x).toNat < S128x16.size a := fun v2 v308 k0_hw38 => k0_hw38

def k0_chk39 (v2 : IVec S16 32) (v317 : IVec S16 32) : Prop :=
  (∀ a x, ((![v317, v2] : Fin 2 → IVec S16 32) a x).toNat < S128x16.size a)
theorem k0_idx48_inb : ∀ (v2 : IVec S16 32) (v317 : IVec S16 32) (k0_hw39 : k0_chk39 v2 v317), ∀ a x, ((![v317, v2] : Fin 2 → IVec S16 32) a x).toNat < S128x16.size a := fun v2 v317 k0_hw39 => k0_hw39

def k0_chk40 (v2 : IVec S16 32) (v326 : IVec S16 32) : Prop :=
  (∀ a x, ((![v326, v2] : Fin 2 → IVec S16 32) a x).toNat < S128x16.size a)
theorem k0_idx49_inb : ∀ (v2 : IVec S16 32) (v326 : IVec S16 32) (k0_hw40 : k0_chk40 v2 v326), ∀ a x, ((![v326, v2] : Fin 2 → IVec S16 32) a x).toNat < S128x16.size a := fun v2 v326 k0_hw40 => k0_hw40

def k0_chk41 (v2 : IVec S16 32) (v335 : IVec S16 32) : Prop :=
  (∀ a x, ((![v335, v2] : Fin 2 → IVec S16 32) a x).toNat < S128x16.size a)
theorem k0_idx50_inb : ∀ (v2 : IVec S16 32) (v335 : IVec S16 32) (k0_hw41 : k0_chk41 v2 v335), ∀ a x, ((![v335, v2] : Fin 2 → IVec S16 32) a x).toNat < S128x16.size a := fun v2 v335 k0_hw41 => k0_hw41

def k0_chk42 (v2 : IVec S16 32) (v344 : IVec S16 32) : Prop :=
  (∀ a x, ((![v344, v2] : Fin 2 → IVec S16 32) a x).toNat < S128x16.size a)
theorem k0_idx51_inb : ∀ (v2 : IVec S16 32) (v344 : IVec S16 32) (k0_hw42 : k0_chk42 v2 v344), ∀ a x, ((![v344, v2] : Fin 2 → IVec S16 32) a x).toNat < S128x16.size a := fun v2 v344 k0_hw42 => k0_hw42

def k0_chk43 (v2 : IVec S16 32) (v354 : IVec S16 32) : Prop :=
  (∀ a x, ((![v354, v2] : Fin 2 → IVec S16 32) a x).toNat < S128x16.size a) ∧
  (∀ a x, ((![v2, v354] : Fin 2 → IVec S16 32) a x).toNat < S16x128.size a)
theorem k0_idx52_inb : ∀ (v2 : IVec S16 32) (v354 : IVec S16 32) (k0_hw43 : k0_chk43 v2 v354), ∀ a x, ((![v354, v2] : Fin 2 → IVec S16 32) a x).toNat < S128x16.size a := fun v2 v354 k0_hw43 => k0_hw43.1
theorem k0_idx54_inb : ∀ (v2 : IVec S16 32) (v354 : IVec S16 32) (k0_hw43 : k0_chk43 v2 v354), ∀ a x, ((![v2, v354] : Fin 2 → IVec S16 32) a x).toNat < S16x128.size a := fun v2 v354 k0_hw43 => k0_hw43.2

def k0_chk44 (v2 : IVec S16 32) (v356 : IVec S16 32) : Prop :=
  (∀ a x, ((![v356, v2] : Fin 2 → IVec S16 32) a x).toNat < S128x16.size a) ∧
  (∀ a x, ((![v2, v356] : Fin 2 → IVec S16 32) a x).toNat < S16x128.size a)
theorem k0_idx53_inb : ∀ (v2 : IVec S16 32) (v356 : IVec S16 32) (k0_hw44 : k0_chk44 v2 v356), ∀ a x, ((![v356, v2] : Fin 2 → IVec S16 32) a x).toNat < S128x16.size a := fun v2 v356 k0_hw44 => k0_hw44.1
theorem k0_idx55_inb : ∀ (v2 : IVec S16 32) (v356 : IVec S16 32) (k0_hw44 : k0_chk44 v2 v356), ∀ a x, ((![v2, v356] : Fin 2 → IVec S16 32) a x).toNat < S16x128.size a := fun v2 v356 k0_hw44 => k0_hw44.2

def k0_chk35 (v2 : IVec S16 32) (v284 : IVec S16 32) : Prop :=
  (∀ a x, ((![v284] : Fin 1 → IVec S16 32) a x).toNat < S64.size a) ∧
  (∀ a x, ((![v2, v284] : Fin 2 → IVec S16 32) a x).toNat < S16x64.size a)
theorem k0_idx44_inb : ∀ (v2 : IVec S16 32) (v284 : IVec S16 32) (k0_hw35 : k0_chk35 v2 v284), ∀ a x, ((![v284] : Fin 1 → IVec S16 32) a x).toNat < S64.size a := fun v2 v284 k0_hw35 => k0_hw35.1
theorem k0_idx56_inb : ∀ (v2 : IVec S16 32) (v284 : IVec S16 32) (k0_hw35 : k0_chk35 v2 v284), ∀ a x, ((![v2, v284] : Fin 2 → IVec S16 32) a x).toNat < S16x64.size a := fun v2 v284 k0_hw35 => k0_hw35.2

def k0_chk46 (v2 : IVec S16 32) (v379 : IVec S16 32) : Prop :=
  (∀ a x, ((![v379, v2] : Fin 2 → IVec S16 32) a x).toNat < S128x16.size a)
theorem k0_idx58_inb : ∀ (v2 : IVec S16 32) (v379 : IVec S16 32) (k0_hw46 : k0_chk46 v2 v379), ∀ a x, ((![v379, v2] : Fin 2 → IVec S16 32) a x).toNat < S128x16.size a := fun v2 v379 k0_hw46 => k0_hw46

def k0_chk47 (v2 : IVec S16 32) (v388 : IVec S16 32) : Prop :=
  (∀ a x, ((![v388, v2] : Fin 2 → IVec S16 32) a x).toNat < S128x16.size a)
theorem k0_idx59_inb : ∀ (v2 : IVec S16 32) (v388 : IVec S16 32) (k0_hw47 : k0_chk47 v2 v388), ∀ a x, ((![v388, v2] : Fin 2 → IVec S16 32) a x).toNat < S128x16.size a := fun v2 v388 k0_hw47 => k0_hw47

def k0_chk48 (v2 : IVec S16 32) (v397 : IVec S16 32) : Prop :=
  (∀ a x, ((![v397, v2] : Fin 2 → IVec S16 32) a x).toNat < S128x16.size a)
theorem k0_idx60_inb : ∀ (v2 : IVec S16 32) (v397 : IVec S16 32) (k0_hw48 : k0_chk48 v2 v397), ∀ a x, ((![v397, v2] : Fin 2 → IVec S16 32) a x).toNat < S128x16.size a := fun v2 v397 k0_hw48 => k0_hw48

def k0_chk49 (v2 : IVec S16 32) (v406 : IVec S16 32) : Prop :=
  (∀ a x, ((![v406, v2] : Fin 2 → IVec S16 32) a x).toNat < S128x16.size a)
theorem k0_idx61_inb : ∀ (v2 : IVec S16 32) (v406 : IVec S16 32) (k0_hw49 : k0_chk49 v2 v406), ∀ a x, ((![v406, v2] : Fin 2 → IVec S16 32) a x).toNat < S128x16.size a := fun v2 v406 k0_hw49 => k0_hw49

def k0_chk50 (v2 : IVec S16 32) (v415 : IVec S16 32) : Prop :=
  (∀ a x, ((![v415, v2] : Fin 2 → IVec S16 32) a x).toNat < S128x16.size a)
theorem k0_idx62_inb : ∀ (v2 : IVec S16 32) (v415 : IVec S16 32) (k0_hw50 : k0_chk50 v2 v415), ∀ a x, ((![v415, v2] : Fin 2 → IVec S16 32) a x).toNat < S128x16.size a := fun v2 v415 k0_hw50 => k0_hw50

def k0_chk51 (v2 : IVec S16 32) (v424 : IVec S16 32) : Prop :=
  (∀ a x, ((![v424, v2] : Fin 2 → IVec S16 32) a x).toNat < S128x16.size a)
theorem k0_idx63_inb : ∀ (v2 : IVec S16 32) (v424 : IVec S16 32) (k0_hw51 : k0_chk51 v2 v424), ∀ a x, ((![v424, v2] : Fin 2 → IVec S16 32) a x).toNat < S128x16.size a := fun v2 v424 k0_hw51 => k0_hw51

def k0_chk52 (v2 : IVec S16 32) (v433 : IVec S16 32) : Prop :=
  (∀ a x, ((![v433, v2] : Fin 2 → IVec S16 32) a x).toNat < S128x16.size a)
theorem k0_idx64_inb : ∀ (v2 : IVec S16 32) (v433 : IVec S16 32) (k0_hw52 : k0_chk52 v2 v433), ∀ a x, ((![v433, v2] : Fin 2 → IVec S16 32) a x).toNat < S128x16.size a := fun v2 v433 k0_hw52 => k0_hw52

def k0_chk53 (v2 : IVec S16 32) (v443 : IVec S16 32) : Prop :=
  (∀ a x, ((![v443, v2] : Fin 2 → IVec S16 32) a x).toNat < S128x16.size a) ∧
  (∀ a x, ((![v2, v443] : Fin 2 → IVec S16 32) a x).toNat < S16x128.size a)
theorem k0_idx65_inb : ∀ (v2 : IVec S16 32) (v443 : IVec S16 32) (k0_hw53 : k0_chk53 v2 v443), ∀ a x, ((![v443, v2] : Fin 2 → IVec S16 32) a x).toNat < S128x16.size a := fun v2 v443 k0_hw53 => k0_hw53.1
theorem k0_idx67_inb : ∀ (v2 : IVec S16 32) (v443 : IVec S16 32) (k0_hw53 : k0_chk53 v2 v443), ∀ a x, ((![v2, v443] : Fin 2 → IVec S16 32) a x).toNat < S16x128.size a := fun v2 v443 k0_hw53 => k0_hw53.2

def k0_chk54 (v2 : IVec S16 32) (v445 : IVec S16 32) : Prop :=
  (∀ a x, ((![v445, v2] : Fin 2 → IVec S16 32) a x).toNat < S128x16.size a) ∧
  (∀ a x, ((![v2, v445] : Fin 2 → IVec S16 32) a x).toNat < S16x128.size a)
theorem k0_idx66_inb : ∀ (v2 : IVec S16 32) (v445 : IVec S16 32) (k0_hw54 : k0_chk54 v2 v445), ∀ a x, ((![v445, v2] : Fin 2 → IVec S16 32) a x).toNat < S128x16.size a := fun v2 v445 k0_hw54 => k0_hw54.1
theorem k0_idx68_inb : ∀ (v2 : IVec S16 32) (v445 : IVec S16 32) (k0_hw54 : k0_chk54 v2 v445), ∀ a x, ((![v2, v445] : Fin 2 → IVec S16 32) a x).toNat < S16x128.size a := fun v2 v445 k0_hw54 => k0_hw54.2

def k0_chk45 (v2 : IVec S16 32) (v373 : IVec S16 32) : Prop :=
  (∀ a x, ((![v373] : Fin 1 → IVec S16 32) a x).toNat < S64.size a) ∧
  (∀ a x, ((![v2, v373] : Fin 2 → IVec S16 32) a x).toNat < S16x64.size a)
theorem k0_idx57_inb : ∀ (v2 : IVec S16 32) (v373 : IVec S16 32) (k0_hw45 : k0_chk45 v2 v373), ∀ a x, ((![v373] : Fin 1 → IVec S16 32) a x).toNat < S64.size a := fun v2 v373 k0_hw45 => k0_hw45.1
theorem k0_idx69_inb : ∀ (v2 : IVec S16 32) (v373 : IVec S16 32) (k0_hw45 : k0_chk45 v2 v373), ∀ a x, ((![v2, v373] : Fin 2 → IVec S16 32) a x).toNat < S16x64.size a := fun v2 v373 k0_hw45 => k0_hw45.2

def k0_chk56 (v2 : IVec S16 32) (v468 : IVec S16 32) : Prop :=
  (∀ a x, ((![v468, v2] : Fin 2 → IVec S16 32) a x).toNat < S128x16.size a)
theorem k0_idx71_inb : ∀ (v2 : IVec S16 32) (v468 : IVec S16 32) (k0_hw56 : k0_chk56 v2 v468), ∀ a x, ((![v468, v2] : Fin 2 → IVec S16 32) a x).toNat < S128x16.size a := fun v2 v468 k0_hw56 => k0_hw56

def k0_chk57 (v2 : IVec S16 32) (v477 : IVec S16 32) : Prop :=
  (∀ a x, ((![v477, v2] : Fin 2 → IVec S16 32) a x).toNat < S128x16.size a)
theorem k0_idx72_inb : ∀ (v2 : IVec S16 32) (v477 : IVec S16 32) (k0_hw57 : k0_chk57 v2 v477), ∀ a x, ((![v477, v2] : Fin 2 → IVec S16 32) a x).toNat < S128x16.size a := fun v2 v477 k0_hw57 => k0_hw57

def k0_chk58 (v2 : IVec S16 32) (v486 : IVec S16 32) : Prop :=
  (∀ a x, ((![v486, v2] : Fin 2 → IVec S16 32) a x).toNat < S128x16.size a)
theorem k0_idx73_inb : ∀ (v2 : IVec S16 32) (v486 : IVec S16 32) (k0_hw58 : k0_chk58 v2 v486), ∀ a x, ((![v486, v2] : Fin 2 → IVec S16 32) a x).toNat < S128x16.size a := fun v2 v486 k0_hw58 => k0_hw58

def k0_chk59 (v2 : IVec S16 32) (v495 : IVec S16 32) : Prop :=
  (∀ a x, ((![v495, v2] : Fin 2 → IVec S16 32) a x).toNat < S128x16.size a)
theorem k0_idx74_inb : ∀ (v2 : IVec S16 32) (v495 : IVec S16 32) (k0_hw59 : k0_chk59 v2 v495), ∀ a x, ((![v495, v2] : Fin 2 → IVec S16 32) a x).toNat < S128x16.size a := fun v2 v495 k0_hw59 => k0_hw59

def k0_chk60 (v2 : IVec S16 32) (v504 : IVec S16 32) : Prop :=
  (∀ a x, ((![v504, v2] : Fin 2 → IVec S16 32) a x).toNat < S128x16.size a)
theorem k0_idx75_inb : ∀ (v2 : IVec S16 32) (v504 : IVec S16 32) (k0_hw60 : k0_chk60 v2 v504), ∀ a x, ((![v504, v2] : Fin 2 → IVec S16 32) a x).toNat < S128x16.size a := fun v2 v504 k0_hw60 => k0_hw60

def k0_chk61 (v2 : IVec S16 32) (v513 : IVec S16 32) : Prop :=
  (∀ a x, ((![v513, v2] : Fin 2 → IVec S16 32) a x).toNat < S128x16.size a)
theorem k0_idx76_inb : ∀ (v2 : IVec S16 32) (v513 : IVec S16 32) (k0_hw61 : k0_chk61 v2 v513), ∀ a x, ((![v513, v2] : Fin 2 → IVec S16 32) a x).toNat < S128x16.size a := fun v2 v513 k0_hw61 => k0_hw61

def k0_chk62 (v2 : IVec S16 32) (v522 : IVec S16 32) : Prop :=
  (∀ a x, ((![v522, v2] : Fin 2 → IVec S16 32) a x).toNat < S128x16.size a)
theorem k0_idx77_inb : ∀ (v2 : IVec S16 32) (v522 : IVec S16 32) (k0_hw62 : k0_chk62 v2 v522), ∀ a x, ((![v522, v2] : Fin 2 → IVec S16 32) a x).toNat < S128x16.size a := fun v2 v522 k0_hw62 => k0_hw62

def k0_chk63 (v2 : IVec S16 32) (v532 : IVec S16 32) : Prop :=
  (∀ a x, ((![v532, v2] : Fin 2 → IVec S16 32) a x).toNat < S128x16.size a) ∧
  (∀ a x, ((![v2, v532] : Fin 2 → IVec S16 32) a x).toNat < S16x128.size a)
theorem k0_idx78_inb : ∀ (v2 : IVec S16 32) (v532 : IVec S16 32) (k0_hw63 : k0_chk63 v2 v532), ∀ a x, ((![v532, v2] : Fin 2 → IVec S16 32) a x).toNat < S128x16.size a := fun v2 v532 k0_hw63 => k0_hw63.1
theorem k0_idx80_inb : ∀ (v2 : IVec S16 32) (v532 : IVec S16 32) (k0_hw63 : k0_chk63 v2 v532), ∀ a x, ((![v2, v532] : Fin 2 → IVec S16 32) a x).toNat < S16x128.size a := fun v2 v532 k0_hw63 => k0_hw63.2

def k0_chk64 (v2 : IVec S16 32) (v534 : IVec S16 32) : Prop :=
  (∀ a x, ((![v534, v2] : Fin 2 → IVec S16 32) a x).toNat < S128x16.size a) ∧
  (∀ a x, ((![v2, v534] : Fin 2 → IVec S16 32) a x).toNat < S16x128.size a)
theorem k0_idx79_inb : ∀ (v2 : IVec S16 32) (v534 : IVec S16 32) (k0_hw64 : k0_chk64 v2 v534), ∀ a x, ((![v534, v2] : Fin 2 → IVec S16 32) a x).toNat < S128x16.size a := fun v2 v534 k0_hw64 => k0_hw64.1
theorem k0_idx81_inb : ∀ (v2 : IVec S16 32) (v534 : IVec S16 32) (k0_hw64 : k0_chk64 v2 v534), ∀ a x, ((![v2, v534] : Fin 2 → IVec S16 32) a x).toNat < S16x128.size a := fun v2 v534 k0_hw64 => k0_hw64.2

def k0_chk55 (v2 : IVec S16 32) (v462 : IVec S16 32) : Prop :=
  (∀ a x, ((![v462] : Fin 1 → IVec S16 32) a x).toNat < S64.size a) ∧
  (∀ a x, ((![v2, v462] : Fin 2 → IVec S16 32) a x).toNat < S16x64.size a)
theorem k0_idx70_inb : ∀ (v2 : IVec S16 32) (v462 : IVec S16 32) (k0_hw55 : k0_chk55 v2 v462), ∀ a x, ((![v462] : Fin 1 → IVec S16 32) a x).toNat < S64.size a := fun v2 v462 k0_hw55 => k0_hw55.1
theorem k0_idx82_inb : ∀ (v2 : IVec S16 32) (v462 : IVec S16 32) (k0_hw55 : k0_chk55 v2 v462), ∀ a x, ((![v2, v462] : Fin 2 → IVec S16 32) a x).toNat < S16x64.size a := fun v2 v462 k0_hw55 => k0_hw55.2

def k0_chk66 (v2 : IVec S16 32) (v557 : IVec S16 32) : Prop :=
  (∀ a x, ((![v557, v2] : Fin 2 → IVec S16 32) a x).toNat < S128x16.size a)
theorem k0_idx84_inb : ∀ (v2 : IVec S16 32) (v557 : IVec S16 32) (k0_hw66 : k0_chk66 v2 v557), ∀ a x, ((![v557, v2] : Fin 2 → IVec S16 32) a x).toNat < S128x16.size a := fun v2 v557 k0_hw66 => k0_hw66

def k0_chk67 (v2 : IVec S16 32) (v566 : IVec S16 32) : Prop :=
  (∀ a x, ((![v566, v2] : Fin 2 → IVec S16 32) a x).toNat < S128x16.size a)
theorem k0_idx85_inb : ∀ (v2 : IVec S16 32) (v566 : IVec S16 32) (k0_hw67 : k0_chk67 v2 v566), ∀ a x, ((![v566, v2] : Fin 2 → IVec S16 32) a x).toNat < S128x16.size a := fun v2 v566 k0_hw67 => k0_hw67

def k0_chk68 (v2 : IVec S16 32) (v575 : IVec S16 32) : Prop :=
  (∀ a x, ((![v575, v2] : Fin 2 → IVec S16 32) a x).toNat < S128x16.size a)
theorem k0_idx86_inb : ∀ (v2 : IVec S16 32) (v575 : IVec S16 32) (k0_hw68 : k0_chk68 v2 v575), ∀ a x, ((![v575, v2] : Fin 2 → IVec S16 32) a x).toNat < S128x16.size a := fun v2 v575 k0_hw68 => k0_hw68

def k0_chk69 (v2 : IVec S16 32) (v584 : IVec S16 32) : Prop :=
  (∀ a x, ((![v584, v2] : Fin 2 → IVec S16 32) a x).toNat < S128x16.size a)
theorem k0_idx87_inb : ∀ (v2 : IVec S16 32) (v584 : IVec S16 32) (k0_hw69 : k0_chk69 v2 v584), ∀ a x, ((![v584, v2] : Fin 2 → IVec S16 32) a x).toNat < S128x16.size a := fun v2 v584 k0_hw69 => k0_hw69

def k0_chk70 (v2 : IVec S16 32) (v593 : IVec S16 32) : Prop :=
  (∀ a x, ((![v593, v2] : Fin 2 → IVec S16 32) a x).toNat < S128x16.size a)
theorem k0_idx88_inb : ∀ (v2 : IVec S16 32) (v593 : IVec S16 32) (k0_hw70 : k0_chk70 v2 v593), ∀ a x, ((![v593, v2] : Fin 2 → IVec S16 32) a x).toNat < S128x16.size a := fun v2 v593 k0_hw70 => k0_hw70

def k0_chk71 (v2 : IVec S16 32) (v602 : IVec S16 32) : Prop :=
  (∀ a x, ((![v602, v2] : Fin 2 → IVec S16 32) a x).toNat < S128x16.size a)
theorem k0_idx89_inb : ∀ (v2 : IVec S16 32) (v602 : IVec S16 32) (k0_hw71 : k0_chk71 v2 v602), ∀ a x, ((![v602, v2] : Fin 2 → IVec S16 32) a x).toNat < S128x16.size a := fun v2 v602 k0_hw71 => k0_hw71

def k0_chk72 (v2 : IVec S16 32) (v611 : IVec S16 32) : Prop :=
  (∀ a x, ((![v611, v2] : Fin 2 → IVec S16 32) a x).toNat < S128x16.size a)
theorem k0_idx90_inb : ∀ (v2 : IVec S16 32) (v611 : IVec S16 32) (k0_hw72 : k0_chk72 v2 v611), ∀ a x, ((![v611, v2] : Fin 2 → IVec S16 32) a x).toNat < S128x16.size a := fun v2 v611 k0_hw72 => k0_hw72

def k0_chk73 (v2 : IVec S16 32) (v621 : IVec S16 32) : Prop :=
  (∀ a x, ((![v621, v2] : Fin 2 → IVec S16 32) a x).toNat < S128x16.size a) ∧
  (∀ a x, ((![v2, v621] : Fin 2 → IVec S16 32) a x).toNat < S16x128.size a)
theorem k0_idx91_inb : ∀ (v2 : IVec S16 32) (v621 : IVec S16 32) (k0_hw73 : k0_chk73 v2 v621), ∀ a x, ((![v621, v2] : Fin 2 → IVec S16 32) a x).toNat < S128x16.size a := fun v2 v621 k0_hw73 => k0_hw73.1
theorem k0_idx93_inb : ∀ (v2 : IVec S16 32) (v621 : IVec S16 32) (k0_hw73 : k0_chk73 v2 v621), ∀ a x, ((![v2, v621] : Fin 2 → IVec S16 32) a x).toNat < S16x128.size a := fun v2 v621 k0_hw73 => k0_hw73.2

def k0_chk74 (v2 : IVec S16 32) (v623 : IVec S16 32) : Prop :=
  (∀ a x, ((![v623, v2] : Fin 2 → IVec S16 32) a x).toNat < S128x16.size a) ∧
  (∀ a x, ((![v2, v623] : Fin 2 → IVec S16 32) a x).toNat < S16x128.size a)
theorem k0_idx92_inb : ∀ (v2 : IVec S16 32) (v623 : IVec S16 32) (k0_hw74 : k0_chk74 v2 v623), ∀ a x, ((![v623, v2] : Fin 2 → IVec S16 32) a x).toNat < S128x16.size a := fun v2 v623 k0_hw74 => k0_hw74.1
theorem k0_idx94_inb : ∀ (v2 : IVec S16 32) (v623 : IVec S16 32) (k0_hw74 : k0_chk74 v2 v623), ∀ a x, ((![v2, v623] : Fin 2 → IVec S16 32) a x).toNat < S16x128.size a := fun v2 v623 k0_hw74 => k0_hw74.2

def k0_chk65 (v2 : IVec S16 32) (v551 : IVec S16 32) : Prop :=
  (∀ a x, ((![v551] : Fin 1 → IVec S16 32) a x).toNat < S64.size a) ∧
  (∀ a x, ((![v2, v551] : Fin 2 → IVec S16 32) a x).toNat < S16x64.size a)
theorem k0_idx83_inb : ∀ (v2 : IVec S16 32) (v551 : IVec S16 32) (k0_hw65 : k0_chk65 v2 v551), ∀ a x, ((![v551] : Fin 1 → IVec S16 32) a x).toNat < S64.size a := fun v2 v551 k0_hw65 => k0_hw65.1
theorem k0_idx95_inb : ∀ (v2 : IVec S16 32) (v551 : IVec S16 32) (k0_hw65 : k0_chk65 v2 v551), ∀ a x, ((![v2, v551] : Fin 2 → IVec S16 32) a x).toNat < S16x64.size a := fun v2 v551 k0_hw65 => k0_hw65.2

def k0_chk76 (v2 : IVec S16 32) (v646 : IVec S16 32) : Prop :=
  (∀ a x, ((![v646, v2] : Fin 2 → IVec S16 32) a x).toNat < S128x16.size a)
theorem k0_idx97_inb : ∀ (v2 : IVec S16 32) (v646 : IVec S16 32) (k0_hw76 : k0_chk76 v2 v646), ∀ a x, ((![v646, v2] : Fin 2 → IVec S16 32) a x).toNat < S128x16.size a := fun v2 v646 k0_hw76 => k0_hw76

def k0_chk77 (v2 : IVec S16 32) (v655 : IVec S16 32) : Prop :=
  (∀ a x, ((![v655, v2] : Fin 2 → IVec S16 32) a x).toNat < S128x16.size a)
theorem k0_idx98_inb : ∀ (v2 : IVec S16 32) (v655 : IVec S16 32) (k0_hw77 : k0_chk77 v2 v655), ∀ a x, ((![v655, v2] : Fin 2 → IVec S16 32) a x).toNat < S128x16.size a := fun v2 v655 k0_hw77 => k0_hw77

def k0_chk78 (v2 : IVec S16 32) (v664 : IVec S16 32) : Prop :=
  (∀ a x, ((![v664, v2] : Fin 2 → IVec S16 32) a x).toNat < S128x16.size a)
theorem k0_idx99_inb : ∀ (v2 : IVec S16 32) (v664 : IVec S16 32) (k0_hw78 : k0_chk78 v2 v664), ∀ a x, ((![v664, v2] : Fin 2 → IVec S16 32) a x).toNat < S128x16.size a := fun v2 v664 k0_hw78 => k0_hw78

def k0_chk79 (v2 : IVec S16 32) (v673 : IVec S16 32) : Prop :=
  (∀ a x, ((![v673, v2] : Fin 2 → IVec S16 32) a x).toNat < S128x16.size a)
theorem k0_idx100_inb : ∀ (v2 : IVec S16 32) (v673 : IVec S16 32) (k0_hw79 : k0_chk79 v2 v673), ∀ a x, ((![v673, v2] : Fin 2 → IVec S16 32) a x).toNat < S128x16.size a := fun v2 v673 k0_hw79 => k0_hw79

def k0_chk80 (v2 : IVec S16 32) (v682 : IVec S16 32) : Prop :=
  (∀ a x, ((![v682, v2] : Fin 2 → IVec S16 32) a x).toNat < S128x16.size a)
theorem k0_idx101_inb : ∀ (v2 : IVec S16 32) (v682 : IVec S16 32) (k0_hw80 : k0_chk80 v2 v682), ∀ a x, ((![v682, v2] : Fin 2 → IVec S16 32) a x).toNat < S128x16.size a := fun v2 v682 k0_hw80 => k0_hw80

def k0_chk81 (v2 : IVec S16 32) (v691 : IVec S16 32) : Prop :=
  (∀ a x, ((![v691, v2] : Fin 2 → IVec S16 32) a x).toNat < S128x16.size a)
theorem k0_idx102_inb : ∀ (v2 : IVec S16 32) (v691 : IVec S16 32) (k0_hw81 : k0_chk81 v2 v691), ∀ a x, ((![v691, v2] : Fin 2 → IVec S16 32) a x).toNat < S128x16.size a := fun v2 v691 k0_hw81 => k0_hw81

def k0_chk82 (v2 : IVec S16 32) (v700 : IVec S16 32) : Prop :=
  (∀ a x, ((![v700, v2] : Fin 2 → IVec S16 32) a x).toNat < S128x16.size a)
theorem k0_idx103_inb : ∀ (v2 : IVec S16 32) (v700 : IVec S16 32) (k0_hw82 : k0_chk82 v2 v700), ∀ a x, ((![v700, v2] : Fin 2 → IVec S16 32) a x).toNat < S128x16.size a := fun v2 v700 k0_hw82 => k0_hw82

def k0_chk83 (v2 : IVec S16 32) (v710 : IVec S16 32) : Prop :=
  (∀ a x, ((![v710, v2] : Fin 2 → IVec S16 32) a x).toNat < S128x16.size a) ∧
  (∀ a x, ((![v2, v710] : Fin 2 → IVec S16 32) a x).toNat < S16x128.size a)
theorem k0_idx104_inb : ∀ (v2 : IVec S16 32) (v710 : IVec S16 32) (k0_hw83 : k0_chk83 v2 v710), ∀ a x, ((![v710, v2] : Fin 2 → IVec S16 32) a x).toNat < S128x16.size a := fun v2 v710 k0_hw83 => k0_hw83.1
theorem k0_idx106_inb : ∀ (v2 : IVec S16 32) (v710 : IVec S16 32) (k0_hw83 : k0_chk83 v2 v710), ∀ a x, ((![v2, v710] : Fin 2 → IVec S16 32) a x).toNat < S16x128.size a := fun v2 v710 k0_hw83 => k0_hw83.2

def k0_chk84 (v2 : IVec S16 32) (v712 : IVec S16 32) : Prop :=
  (∀ a x, ((![v712, v2] : Fin 2 → IVec S16 32) a x).toNat < S128x16.size a) ∧
  (∀ a x, ((![v2, v712] : Fin 2 → IVec S16 32) a x).toNat < S16x128.size a)
theorem k0_idx105_inb : ∀ (v2 : IVec S16 32) (v712 : IVec S16 32) (k0_hw84 : k0_chk84 v2 v712), ∀ a x, ((![v712, v2] : Fin 2 → IVec S16 32) a x).toNat < S128x16.size a := fun v2 v712 k0_hw84 => k0_hw84.1
theorem k0_idx107_inb : ∀ (v2 : IVec S16 32) (v712 : IVec S16 32) (k0_hw84 : k0_chk84 v2 v712), ∀ a x, ((![v2, v712] : Fin 2 → IVec S16 32) a x).toNat < S16x128.size a := fun v2 v712 k0_hw84 => k0_hw84.2

def k0_chk75 (v2 : IVec S16 32) (v640 : IVec S16 32) : Prop :=
  (∀ a x, ((![v640] : Fin 1 → IVec S16 32) a x).toNat < S64.size a) ∧
  (∀ a x, ((![v2, v640] : Fin 2 → IVec S16 32) a x).toNat < S16x64.size a)
theorem k0_idx96_inb : ∀ (v2 : IVec S16 32) (v640 : IVec S16 32) (k0_hw75 : k0_chk75 v2 v640), ∀ a x, ((![v640] : Fin 1 → IVec S16 32) a x).toNat < S64.size a := fun v2 v640 k0_hw75 => k0_hw75.1
theorem k0_idx108_inb : ∀ (v2 : IVec S16 32) (v640 : IVec S16 32) (k0_hw75 : k0_chk75 v2 v640), ∀ a x, ((![v2, v640] : Fin 2 → IVec S16 32) a x).toNat < S16x64.size a := fun v2 v640 k0_hw75 => k0_hw75.2

def k0_chk86 (v2 : IVec S16 32) (v735 : IVec S16 32) : Prop :=
  (∀ a x, ((![v735, v2] : Fin 2 → IVec S16 32) a x).toNat < S128x16.size a)
theorem k0_idx110_inb : ∀ (v2 : IVec S16 32) (v735 : IVec S16 32) (k0_hw86 : k0_chk86 v2 v735), ∀ a x, ((![v735, v2] : Fin 2 → IVec S16 32) a x).toNat < S128x16.size a := fun v2 v735 k0_hw86 => k0_hw86

def k0_chk87 (v2 : IVec S16 32) (v744 : IVec S16 32) : Prop :=
  (∀ a x, ((![v744, v2] : Fin 2 → IVec S16 32) a x).toNat < S128x16.size a)
theorem k0_idx111_inb : ∀ (v2 : IVec S16 32) (v744 : IVec S16 32) (k0_hw87 : k0_chk87 v2 v744), ∀ a x, ((![v744, v2] : Fin 2 → IVec S16 32) a x).toNat < S128x16.size a := fun v2 v744 k0_hw87 => k0_hw87

def k0_chk88 (v2 : IVec S16 32) (v753 : IVec S16 32) : Prop :=
  (∀ a x, ((![v753, v2] : Fin 2 → IVec S16 32) a x).toNat < S128x16.size a)
theorem k0_idx112_inb : ∀ (v2 : IVec S16 32) (v753 : IVec S16 32) (k0_hw88 : k0_chk88 v2 v753), ∀ a x, ((![v753, v2] : Fin 2 → IVec S16 32) a x).toNat < S128x16.size a := fun v2 v753 k0_hw88 => k0_hw88

def k0_chk89 (v2 : IVec S16 32) (v762 : IVec S16 32) : Prop :=
  (∀ a x, ((![v762, v2] : Fin 2 → IVec S16 32) a x).toNat < S128x16.size a)
theorem k0_idx113_inb : ∀ (v2 : IVec S16 32) (v762 : IVec S16 32) (k0_hw89 : k0_chk89 v2 v762), ∀ a x, ((![v762, v2] : Fin 2 → IVec S16 32) a x).toNat < S128x16.size a := fun v2 v762 k0_hw89 => k0_hw89

def k0_chk90 (v2 : IVec S16 32) (v771 : IVec S16 32) : Prop :=
  (∀ a x, ((![v771, v2] : Fin 2 → IVec S16 32) a x).toNat < S128x16.size a)
theorem k0_idx114_inb : ∀ (v2 : IVec S16 32) (v771 : IVec S16 32) (k0_hw90 : k0_chk90 v2 v771), ∀ a x, ((![v771, v2] : Fin 2 → IVec S16 32) a x).toNat < S128x16.size a := fun v2 v771 k0_hw90 => k0_hw90

def k0_chk91 (v2 : IVec S16 32) (v780 : IVec S16 32) : Prop :=
  (∀ a x, ((![v780, v2] : Fin 2 → IVec S16 32) a x).toNat < S128x16.size a)
theorem k0_idx115_inb : ∀ (v2 : IVec S16 32) (v780 : IVec S16 32) (k0_hw91 : k0_chk91 v2 v780), ∀ a x, ((![v780, v2] : Fin 2 → IVec S16 32) a x).toNat < S128x16.size a := fun v2 v780 k0_hw91 => k0_hw91

def k0_chk92 (v2 : IVec S16 32) (v789 : IVec S16 32) : Prop :=
  (∀ a x, ((![v789, v2] : Fin 2 → IVec S16 32) a x).toNat < S128x16.size a)
theorem k0_idx116_inb : ∀ (v2 : IVec S16 32) (v789 : IVec S16 32) (k0_hw92 : k0_chk92 v2 v789), ∀ a x, ((![v789, v2] : Fin 2 → IVec S16 32) a x).toNat < S128x16.size a := fun v2 v789 k0_hw92 => k0_hw92

def k0_chk93 (v2 : IVec S16 32) (v799 : IVec S16 32) : Prop :=
  (∀ a x, ((![v799, v2] : Fin 2 → IVec S16 32) a x).toNat < S128x16.size a) ∧
  (∀ a x, ((![v2, v799] : Fin 2 → IVec S16 32) a x).toNat < S16x128.size a)
theorem k0_idx117_inb : ∀ (v2 : IVec S16 32) (v799 : IVec S16 32) (k0_hw93 : k0_chk93 v2 v799), ∀ a x, ((![v799, v2] : Fin 2 → IVec S16 32) a x).toNat < S128x16.size a := fun v2 v799 k0_hw93 => k0_hw93.1
theorem k0_idx119_inb : ∀ (v2 : IVec S16 32) (v799 : IVec S16 32) (k0_hw93 : k0_chk93 v2 v799), ∀ a x, ((![v2, v799] : Fin 2 → IVec S16 32) a x).toNat < S16x128.size a := fun v2 v799 k0_hw93 => k0_hw93.2

def k0_chk94 (v2 : IVec S16 32) (v801 : IVec S16 32) : Prop :=
  (∀ a x, ((![v801, v2] : Fin 2 → IVec S16 32) a x).toNat < S128x16.size a) ∧
  (∀ a x, ((![v2, v801] : Fin 2 → IVec S16 32) a x).toNat < S16x128.size a)
theorem k0_idx118_inb : ∀ (v2 : IVec S16 32) (v801 : IVec S16 32) (k0_hw94 : k0_chk94 v2 v801), ∀ a x, ((![v801, v2] : Fin 2 → IVec S16 32) a x).toNat < S128x16.size a := fun v2 v801 k0_hw94 => k0_hw94.1
theorem k0_idx120_inb : ∀ (v2 : IVec S16 32) (v801 : IVec S16 32) (k0_hw94 : k0_chk94 v2 v801), ∀ a x, ((![v2, v801] : Fin 2 → IVec S16 32) a x).toNat < S16x128.size a := fun v2 v801 k0_hw94 => k0_hw94.2

def k0_chk85 (v2 : IVec S16 32) (v729 : IVec S16 32) : Prop :=
  (∀ a x, ((![v729] : Fin 1 → IVec S16 32) a x).toNat < S64.size a) ∧
  (∀ a x, ((![v2, v729] : Fin 2 → IVec S16 32) a x).toNat < S16x64.size a)
theorem k0_idx109_inb : ∀ (v2 : IVec S16 32) (v729 : IVec S16 32) (k0_hw85 : k0_chk85 v2 v729), ∀ a x, ((![v729] : Fin 1 → IVec S16 32) a x).toNat < S64.size a := fun v2 v729 k0_hw85 => k0_hw85.1
theorem k0_idx121_inb : ∀ (v2 : IVec S16 32) (v729 : IVec S16 32) (k0_hw85 : k0_chk85 v2 v729), ∀ a x, ((![v2, v729] : Fin 2 → IVec S16 32) a x).toNat < S16x64.size a := fun v2 v729 k0_hw85 => k0_hw85.2

def k0_chk96 (v2 : IVec S16 32) (v824 : IVec S16 32) : Prop :=
  (∀ a x, ((![v824, v2] : Fin 2 → IVec S16 32) a x).toNat < S128x16.size a)
theorem k0_idx123_inb : ∀ (v2 : IVec S16 32) (v824 : IVec S16 32) (k0_hw96 : k0_chk96 v2 v824), ∀ a x, ((![v824, v2] : Fin 2 → IVec S16 32) a x).toNat < S128x16.size a := fun v2 v824 k0_hw96 => k0_hw96

def k0_chk97 (v2 : IVec S16 32) (v833 : IVec S16 32) : Prop :=
  (∀ a x, ((![v833, v2] : Fin 2 → IVec S16 32) a x).toNat < S128x16.size a)
theorem k0_idx124_inb : ∀ (v2 : IVec S16 32) (v833 : IVec S16 32) (k0_hw97 : k0_chk97 v2 v833), ∀ a x, ((![v833, v2] : Fin 2 → IVec S16 32) a x).toNat < S128x16.size a := fun v2 v833 k0_hw97 => k0_hw97

def k0_chk98 (v2 : IVec S16 32) (v842 : IVec S16 32) : Prop :=
  (∀ a x, ((![v842, v2] : Fin 2 → IVec S16 32) a x).toNat < S128x16.size a)
theorem k0_idx125_inb : ∀ (v2 : IVec S16 32) (v842 : IVec S16 32) (k0_hw98 : k0_chk98 v2 v842), ∀ a x, ((![v842, v2] : Fin 2 → IVec S16 32) a x).toNat < S128x16.size a := fun v2 v842 k0_hw98 => k0_hw98

def k0_chk99 (v2 : IVec S16 32) (v851 : IVec S16 32) : Prop :=
  (∀ a x, ((![v851, v2] : Fin 2 → IVec S16 32) a x).toNat < S128x16.size a)
theorem k0_idx126_inb : ∀ (v2 : IVec S16 32) (v851 : IVec S16 32) (k0_hw99 : k0_chk99 v2 v851), ∀ a x, ((![v851, v2] : Fin 2 → IVec S16 32) a x).toNat < S128x16.size a := fun v2 v851 k0_hw99 => k0_hw99

def k0_chk100 (v2 : IVec S16 32) (v860 : IVec S16 32) : Prop :=
  (∀ a x, ((![v860, v2] : Fin 2 → IVec S16 32) a x).toNat < S128x16.size a)
theorem k0_idx127_inb : ∀ (v2 : IVec S16 32) (v860 : IVec S16 32) (k0_hw100 : k0_chk100 v2 v860), ∀ a x, ((![v860, v2] : Fin 2 → IVec S16 32) a x).toNat < S128x16.size a := fun v2 v860 k0_hw100 => k0_hw100

def k0_chk101 (v2 : IVec S16 32) (v869 : IVec S16 32) : Prop :=
  (∀ a x, ((![v869, v2] : Fin 2 → IVec S16 32) a x).toNat < S128x16.size a)
theorem k0_idx128_inb : ∀ (v2 : IVec S16 32) (v869 : IVec S16 32) (k0_hw101 : k0_chk101 v2 v869), ∀ a x, ((![v869, v2] : Fin 2 → IVec S16 32) a x).toNat < S128x16.size a := fun v2 v869 k0_hw101 => k0_hw101

def k0_chk102 (v2 : IVec S16 32) (v878 : IVec S16 32) : Prop :=
  (∀ a x, ((![v878, v2] : Fin 2 → IVec S16 32) a x).toNat < S128x16.size a)
theorem k0_idx129_inb : ∀ (v2 : IVec S16 32) (v878 : IVec S16 32) (k0_hw102 : k0_chk102 v2 v878), ∀ a x, ((![v878, v2] : Fin 2 → IVec S16 32) a x).toNat < S128x16.size a := fun v2 v878 k0_hw102 => k0_hw102

def k0_chk103 (v2 : IVec S16 32) (v888 : IVec S16 32) : Prop :=
  (∀ a x, ((![v888, v2] : Fin 2 → IVec S16 32) a x).toNat < S128x16.size a) ∧
  (∀ a x, ((![v2, v888] : Fin 2 → IVec S16 32) a x).toNat < S16x128.size a)
theorem k0_idx130_inb : ∀ (v2 : IVec S16 32) (v888 : IVec S16 32) (k0_hw103 : k0_chk103 v2 v888), ∀ a x, ((![v888, v2] : Fin 2 → IVec S16 32) a x).toNat < S128x16.size a := fun v2 v888 k0_hw103 => k0_hw103.1
theorem k0_idx132_inb : ∀ (v2 : IVec S16 32) (v888 : IVec S16 32) (k0_hw103 : k0_chk103 v2 v888), ∀ a x, ((![v2, v888] : Fin 2 → IVec S16 32) a x).toNat < S16x128.size a := fun v2 v888 k0_hw103 => k0_hw103.2

def k0_chk104 (v2 : IVec S16 32) (v890 : IVec S16 32) : Prop :=
  (∀ a x, ((![v890, v2] : Fin 2 → IVec S16 32) a x).toNat < S128x16.size a) ∧
  (∀ a x, ((![v2, v890] : Fin 2 → IVec S16 32) a x).toNat < S16x128.size a)
theorem k0_idx131_inb : ∀ (v2 : IVec S16 32) (v890 : IVec S16 32) (k0_hw104 : k0_chk104 v2 v890), ∀ a x, ((![v890, v2] : Fin 2 → IVec S16 32) a x).toNat < S128x16.size a := fun v2 v890 k0_hw104 => k0_hw104.1
theorem k0_idx133_inb : ∀ (v2 : IVec S16 32) (v890 : IVec S16 32) (k0_hw104 : k0_chk104 v2 v890), ∀ a x, ((![v2, v890] : Fin 2 → IVec S16 32) a x).toNat < S16x128.size a := fun v2 v890 k0_hw104 => k0_hw104.2

def k0_chk95 (v2 : IVec S16 32) (v818 : IVec S16 32) : Prop :=
  (∀ a x, ((![v818] : Fin 1 → IVec S16 32) a x).toNat < S64.size a) ∧
  (∀ a x, ((![v2, v818] : Fin 2 → IVec S16 32) a x).toNat < S16x64.size a)
theorem k0_idx122_inb : ∀ (v2 : IVec S16 32) (v818 : IVec S16 32) (k0_hw95 : k0_chk95 v2 v818), ∀ a x, ((![v818] : Fin 1 → IVec S16 32) a x).toNat < S64.size a := fun v2 v818 k0_hw95 => k0_hw95.1
theorem k0_idx134_inb : ∀ (v2 : IVec S16 32) (v818 : IVec S16 32) (k0_hw95 : k0_chk95 v2 v818), ∀ a x, ((![v2, v818] : Fin 2 → IVec S16 32) a x).toNat < S16x64.size a := fun v2 v818 k0_hw95 => k0_hw95.2

def k0_chk106 (v2 : IVec S16 32) (v913 : IVec S16 32) : Prop :=
  (∀ a x, ((![v913, v2] : Fin 2 → IVec S16 32) a x).toNat < S128x16.size a)
theorem k0_idx136_inb : ∀ (v2 : IVec S16 32) (v913 : IVec S16 32) (k0_hw106 : k0_chk106 v2 v913), ∀ a x, ((![v913, v2] : Fin 2 → IVec S16 32) a x).toNat < S128x16.size a := fun v2 v913 k0_hw106 => k0_hw106

def k0_chk107 (v2 : IVec S16 32) (v922 : IVec S16 32) : Prop :=
  (∀ a x, ((![v922, v2] : Fin 2 → IVec S16 32) a x).toNat < S128x16.size a)
theorem k0_idx137_inb : ∀ (v2 : IVec S16 32) (v922 : IVec S16 32) (k0_hw107 : k0_chk107 v2 v922), ∀ a x, ((![v922, v2] : Fin 2 → IVec S16 32) a x).toNat < S128x16.size a := fun v2 v922 k0_hw107 => k0_hw107

def k0_chk108 (v2 : IVec S16 32) (v931 : IVec S16 32) : Prop :=
  (∀ a x, ((![v931, v2] : Fin 2 → IVec S16 32) a x).toNat < S128x16.size a)
theorem k0_idx138_inb : ∀ (v2 : IVec S16 32) (v931 : IVec S16 32) (k0_hw108 : k0_chk108 v2 v931), ∀ a x, ((![v931, v2] : Fin 2 → IVec S16 32) a x).toNat < S128x16.size a := fun v2 v931 k0_hw108 => k0_hw108

def k0_chk109 (v2 : IVec S16 32) (v940 : IVec S16 32) : Prop :=
  (∀ a x, ((![v940, v2] : Fin 2 → IVec S16 32) a x).toNat < S128x16.size a)
theorem k0_idx139_inb : ∀ (v2 : IVec S16 32) (v940 : IVec S16 32) (k0_hw109 : k0_chk109 v2 v940), ∀ a x, ((![v940, v2] : Fin 2 → IVec S16 32) a x).toNat < S128x16.size a := fun v2 v940 k0_hw109 => k0_hw109

def k0_chk110 (v2 : IVec S16 32) (v949 : IVec S16 32) : Prop :=
  (∀ a x, ((![v949, v2] : Fin 2 → IVec S16 32) a x).toNat < S128x16.size a)
theorem k0_idx140_inb : ∀ (v2 : IVec S16 32) (v949 : IVec S16 32) (k0_hw110 : k0_chk110 v2 v949), ∀ a x, ((![v949, v2] : Fin 2 → IVec S16 32) a x).toNat < S128x16.size a := fun v2 v949 k0_hw110 => k0_hw110

def k0_chk111 (v2 : IVec S16 32) (v958 : IVec S16 32) : Prop :=
  (∀ a x, ((![v958, v2] : Fin 2 → IVec S16 32) a x).toNat < S128x16.size a)
theorem k0_idx141_inb : ∀ (v2 : IVec S16 32) (v958 : IVec S16 32) (k0_hw111 : k0_chk111 v2 v958), ∀ a x, ((![v958, v2] : Fin 2 → IVec S16 32) a x).toNat < S128x16.size a := fun v2 v958 k0_hw111 => k0_hw111

def k0_chk112 (v2 : IVec S16 32) (v967 : IVec S16 32) : Prop :=
  (∀ a x, ((![v967, v2] : Fin 2 → IVec S16 32) a x).toNat < S128x16.size a)
theorem k0_idx142_inb : ∀ (v2 : IVec S16 32) (v967 : IVec S16 32) (k0_hw112 : k0_chk112 v2 v967), ∀ a x, ((![v967, v2] : Fin 2 → IVec S16 32) a x).toNat < S128x16.size a := fun v2 v967 k0_hw112 => k0_hw112

def k0_chk113 (v2 : IVec S16 32) (v977 : IVec S16 32) : Prop :=
  (∀ a x, ((![v977, v2] : Fin 2 → IVec S16 32) a x).toNat < S128x16.size a) ∧
  (∀ a x, ((![v2, v977] : Fin 2 → IVec S16 32) a x).toNat < S16x128.size a)
theorem k0_idx143_inb : ∀ (v2 : IVec S16 32) (v977 : IVec S16 32) (k0_hw113 : k0_chk113 v2 v977), ∀ a x, ((![v977, v2] : Fin 2 → IVec S16 32) a x).toNat < S128x16.size a := fun v2 v977 k0_hw113 => k0_hw113.1
theorem k0_idx145_inb : ∀ (v2 : IVec S16 32) (v977 : IVec S16 32) (k0_hw113 : k0_chk113 v2 v977), ∀ a x, ((![v2, v977] : Fin 2 → IVec S16 32) a x).toNat < S16x128.size a := fun v2 v977 k0_hw113 => k0_hw113.2

def k0_chk114 (v2 : IVec S16 32) (v979 : IVec S16 32) : Prop :=
  (∀ a x, ((![v979, v2] : Fin 2 → IVec S16 32) a x).toNat < S128x16.size a) ∧
  (∀ a x, ((![v2, v979] : Fin 2 → IVec S16 32) a x).toNat < S16x128.size a)
theorem k0_idx144_inb : ∀ (v2 : IVec S16 32) (v979 : IVec S16 32) (k0_hw114 : k0_chk114 v2 v979), ∀ a x, ((![v979, v2] : Fin 2 → IVec S16 32) a x).toNat < S128x16.size a := fun v2 v979 k0_hw114 => k0_hw114.1
theorem k0_idx146_inb : ∀ (v2 : IVec S16 32) (v979 : IVec S16 32) (k0_hw114 : k0_chk114 v2 v979), ∀ a x, ((![v2, v979] : Fin 2 → IVec S16 32) a x).toNat < S16x128.size a := fun v2 v979 k0_hw114 => k0_hw114.2

def k0_chk105 (v2 : IVec S16 32) (v907 : IVec S16 32) : Prop :=
  (∀ a x, ((![v907] : Fin 1 → IVec S16 32) a x).toNat < S64.size a) ∧
  (∀ a x, ((![v2, v907] : Fin 2 → IVec S16 32) a x).toNat < S16x64.size a)
theorem k0_idx135_inb : ∀ (v2 : IVec S16 32) (v907 : IVec S16 32) (k0_hw105 : k0_chk105 v2 v907), ∀ a x, ((![v907] : Fin 1 → IVec S16 32) a x).toNat < S64.size a := fun v2 v907 k0_hw105 => k0_hw105.1
theorem k0_idx147_inb : ∀ (v2 : IVec S16 32) (v907 : IVec S16 32) (k0_hw105 : k0_chk105 v2 v907), ∀ a x, ((![v2, v907] : Fin 2 → IVec S16 32) a x).toNat < S16x64.size a := fun v2 v907 k0_hw105 => k0_hw105.2

def k0_chk116 (v2 : IVec S16 32) (v1002 : IVec S16 32) : Prop :=
  (∀ a x, ((![v1002, v2] : Fin 2 → IVec S16 32) a x).toNat < S128x16.size a)
theorem k0_idx149_inb : ∀ (v2 : IVec S16 32) (v1002 : IVec S16 32) (k0_hw116 : k0_chk116 v2 v1002), ∀ a x, ((![v1002, v2] : Fin 2 → IVec S16 32) a x).toNat < S128x16.size a := fun v2 v1002 k0_hw116 => k0_hw116

def k0_chk117 (v2 : IVec S16 32) (v1011 : IVec S16 32) : Prop :=
  (∀ a x, ((![v1011, v2] : Fin 2 → IVec S16 32) a x).toNat < S128x16.size a)
theorem k0_idx150_inb : ∀ (v2 : IVec S16 32) (v1011 : IVec S16 32) (k0_hw117 : k0_chk117 v2 v1011), ∀ a x, ((![v1011, v2] : Fin 2 → IVec S16 32) a x).toNat < S128x16.size a := fun v2 v1011 k0_hw117 => k0_hw117

def k0_chk118 (v2 : IVec S16 32) (v1020 : IVec S16 32) : Prop :=
  (∀ a x, ((![v1020, v2] : Fin 2 → IVec S16 32) a x).toNat < S128x16.size a)
theorem k0_idx151_inb : ∀ (v2 : IVec S16 32) (v1020 : IVec S16 32) (k0_hw118 : k0_chk118 v2 v1020), ∀ a x, ((![v1020, v2] : Fin 2 → IVec S16 32) a x).toNat < S128x16.size a := fun v2 v1020 k0_hw118 => k0_hw118

def k0_chk119 (v2 : IVec S16 32) (v1029 : IVec S16 32) : Prop :=
  (∀ a x, ((![v1029, v2] : Fin 2 → IVec S16 32) a x).toNat < S128x16.size a)
theorem k0_idx152_inb : ∀ (v2 : IVec S16 32) (v1029 : IVec S16 32) (k0_hw119 : k0_chk119 v2 v1029), ∀ a x, ((![v1029, v2] : Fin 2 → IVec S16 32) a x).toNat < S128x16.size a := fun v2 v1029 k0_hw119 => k0_hw119

def k0_chk120 (v2 : IVec S16 32) (v1038 : IVec S16 32) : Prop :=
  (∀ a x, ((![v1038, v2] : Fin 2 → IVec S16 32) a x).toNat < S128x16.size a)
theorem k0_idx153_inb : ∀ (v2 : IVec S16 32) (v1038 : IVec S16 32) (k0_hw120 : k0_chk120 v2 v1038), ∀ a x, ((![v1038, v2] : Fin 2 → IVec S16 32) a x).toNat < S128x16.size a := fun v2 v1038 k0_hw120 => k0_hw120

def k0_chk121 (v2 : IVec S16 32) (v1047 : IVec S16 32) : Prop :=
  (∀ a x, ((![v1047, v2] : Fin 2 → IVec S16 32) a x).toNat < S128x16.size a)
theorem k0_idx154_inb : ∀ (v2 : IVec S16 32) (v1047 : IVec S16 32) (k0_hw121 : k0_chk121 v2 v1047), ∀ a x, ((![v1047, v2] : Fin 2 → IVec S16 32) a x).toNat < S128x16.size a := fun v2 v1047 k0_hw121 => k0_hw121

def k0_chk122 (v2 : IVec S16 32) (v1056 : IVec S16 32) : Prop :=
  (∀ a x, ((![v1056, v2] : Fin 2 → IVec S16 32) a x).toNat < S128x16.size a)
theorem k0_idx155_inb : ∀ (v2 : IVec S16 32) (v1056 : IVec S16 32) (k0_hw122 : k0_chk122 v2 v1056), ∀ a x, ((![v1056, v2] : Fin 2 → IVec S16 32) a x).toNat < S128x16.size a := fun v2 v1056 k0_hw122 => k0_hw122

def k0_chk123 (v2 : IVec S16 32) (v1066 : IVec S16 32) : Prop :=
  (∀ a x, ((![v1066, v2] : Fin 2 → IVec S16 32) a x).toNat < S128x16.size a) ∧
  (∀ a x, ((![v2, v1066] : Fin 2 → IVec S16 32) a x).toNat < S16x128.size a)
theorem k0_idx156_inb : ∀ (v2 : IVec S16 32) (v1066 : IVec S16 32) (k0_hw123 : k0_chk123 v2 v1066), ∀ a x, ((![v1066, v2] : Fin 2 → IVec S16 32) a x).toNat < S128x16.size a := fun v2 v1066 k0_hw123 => k0_hw123.1
theorem k0_idx158_inb : ∀ (v2 : IVec S16 32) (v1066 : IVec S16 32) (k0_hw123 : k0_chk123 v2 v1066), ∀ a x, ((![v2, v1066] : Fin 2 → IVec S16 32) a x).toNat < S16x128.size a := fun v2 v1066 k0_hw123 => k0_hw123.2

def k0_chk124 (v2 : IVec S16 32) (v1068 : IVec S16 32) : Prop :=
  (∀ a x, ((![v1068, v2] : Fin 2 → IVec S16 32) a x).toNat < S128x16.size a) ∧
  (∀ a x, ((![v2, v1068] : Fin 2 → IVec S16 32) a x).toNat < S16x128.size a)
theorem k0_idx157_inb : ∀ (v2 : IVec S16 32) (v1068 : IVec S16 32) (k0_hw124 : k0_chk124 v2 v1068), ∀ a x, ((![v1068, v2] : Fin 2 → IVec S16 32) a x).toNat < S128x16.size a := fun v2 v1068 k0_hw124 => k0_hw124.1
theorem k0_idx159_inb : ∀ (v2 : IVec S16 32) (v1068 : IVec S16 32) (k0_hw124 : k0_chk124 v2 v1068), ∀ a x, ((![v2, v1068] : Fin 2 → IVec S16 32) a x).toNat < S16x128.size a := fun v2 v1068 k0_hw124 => k0_hw124.2

def k0_chk115 (v2 : IVec S16 32) (v996 : IVec S16 32) : Prop :=
  (∀ a x, ((![v996] : Fin 1 → IVec S16 32) a x).toNat < S64.size a) ∧
  (∀ a x, ((![v2, v996] : Fin 2 → IVec S16 32) a x).toNat < S16x64.size a)
theorem k0_idx148_inb : ∀ (v2 : IVec S16 32) (v996 : IVec S16 32) (k0_hw115 : k0_chk115 v2 v996), ∀ a x, ((![v996] : Fin 1 → IVec S16 32) a x).toNat < S64.size a := fun v2 v996 k0_hw115 => k0_hw115.1
theorem k0_idx160_inb : ∀ (v2 : IVec S16 32) (v996 : IVec S16 32) (k0_hw115 : k0_chk115 v2 v996), ∀ a x, ((![v2, v996] : Fin 2 → IVec S16 32) a x).toNat < S16x64.size a := fun v2 v996 k0_hw115 => k0_hw115.2

def k0_chk126 (v2 : IVec S16 32) (v1091 : IVec S16 32) : Prop :=
  (∀ a x, ((![v1091, v2] : Fin 2 → IVec S16 32) a x).toNat < S128x16.size a)
theorem k0_idx162_inb : ∀ (v2 : IVec S16 32) (v1091 : IVec S16 32) (k0_hw126 : k0_chk126 v2 v1091), ∀ a x, ((![v1091, v2] : Fin 2 → IVec S16 32) a x).toNat < S128x16.size a := fun v2 v1091 k0_hw126 => k0_hw126

def k0_chk127 (v2 : IVec S16 32) (v1100 : IVec S16 32) : Prop :=
  (∀ a x, ((![v1100, v2] : Fin 2 → IVec S16 32) a x).toNat < S128x16.size a)
theorem k0_idx163_inb : ∀ (v2 : IVec S16 32) (v1100 : IVec S16 32) (k0_hw127 : k0_chk127 v2 v1100), ∀ a x, ((![v1100, v2] : Fin 2 → IVec S16 32) a x).toNat < S128x16.size a := fun v2 v1100 k0_hw127 => k0_hw127

def k0_chk128 (v2 : IVec S16 32) (v1109 : IVec S16 32) : Prop :=
  (∀ a x, ((![v1109, v2] : Fin 2 → IVec S16 32) a x).toNat < S128x16.size a)
theorem k0_idx164_inb : ∀ (v2 : IVec S16 32) (v1109 : IVec S16 32) (k0_hw128 : k0_chk128 v2 v1109), ∀ a x, ((![v1109, v2] : Fin 2 → IVec S16 32) a x).toNat < S128x16.size a := fun v2 v1109 k0_hw128 => k0_hw128

def k0_chk129 (v2 : IVec S16 32) (v1118 : IVec S16 32) : Prop :=
  (∀ a x, ((![v1118, v2] : Fin 2 → IVec S16 32) a x).toNat < S128x16.size a)
theorem k0_idx165_inb : ∀ (v2 : IVec S16 32) (v1118 : IVec S16 32) (k0_hw129 : k0_chk129 v2 v1118), ∀ a x, ((![v1118, v2] : Fin 2 → IVec S16 32) a x).toNat < S128x16.size a := fun v2 v1118 k0_hw129 => k0_hw129

def k0_chk130 (v2 : IVec S16 32) (v1127 : IVec S16 32) : Prop :=
  (∀ a x, ((![v1127, v2] : Fin 2 → IVec S16 32) a x).toNat < S128x16.size a)
theorem k0_idx166_inb : ∀ (v2 : IVec S16 32) (v1127 : IVec S16 32) (k0_hw130 : k0_chk130 v2 v1127), ∀ a x, ((![v1127, v2] : Fin 2 → IVec S16 32) a x).toNat < S128x16.size a := fun v2 v1127 k0_hw130 => k0_hw130

def k0_chk131 (v2 : IVec S16 32) (v1136 : IVec S16 32) : Prop :=
  (∀ a x, ((![v1136, v2] : Fin 2 → IVec S16 32) a x).toNat < S128x16.size a)
theorem k0_idx167_inb : ∀ (v2 : IVec S16 32) (v1136 : IVec S16 32) (k0_hw131 : k0_chk131 v2 v1136), ∀ a x, ((![v1136, v2] : Fin 2 → IVec S16 32) a x).toNat < S128x16.size a := fun v2 v1136 k0_hw131 => k0_hw131

def k0_chk132 (v2 : IVec S16 32) (v1145 : IVec S16 32) : Prop :=
  (∀ a x, ((![v1145, v2] : Fin 2 → IVec S16 32) a x).toNat < S128x16.size a)
theorem k0_idx168_inb : ∀ (v2 : IVec S16 32) (v1145 : IVec S16 32) (k0_hw132 : k0_chk132 v2 v1145), ∀ a x, ((![v1145, v2] : Fin 2 → IVec S16 32) a x).toNat < S128x16.size a := fun v2 v1145 k0_hw132 => k0_hw132

def k0_chk133 (v2 : IVec S16 32) (v1155 : IVec S16 32) : Prop :=
  (∀ a x, ((![v1155, v2] : Fin 2 → IVec S16 32) a x).toNat < S128x16.size a) ∧
  (∀ a x, ((![v2, v1155] : Fin 2 → IVec S16 32) a x).toNat < S16x128.size a)
theorem k0_idx169_inb : ∀ (v2 : IVec S16 32) (v1155 : IVec S16 32) (k0_hw133 : k0_chk133 v2 v1155), ∀ a x, ((![v1155, v2] : Fin 2 → IVec S16 32) a x).toNat < S128x16.size a := fun v2 v1155 k0_hw133 => k0_hw133.1
theorem k0_idx171_inb : ∀ (v2 : IVec S16 32) (v1155 : IVec S16 32) (k0_hw133 : k0_chk133 v2 v1155), ∀ a x, ((![v2, v1155] : Fin 2 → IVec S16 32) a x).toNat < S16x128.size a := fun v2 v1155 k0_hw133 => k0_hw133.2

def k0_chk134 (v2 : IVec S16 32) (v1157 : IVec S16 32) : Prop :=
  (∀ a x, ((![v1157, v2] : Fin 2 → IVec S16 32) a x).toNat < S128x16.size a) ∧
  (∀ a x, ((![v2, v1157] : Fin 2 → IVec S16 32) a x).toNat < S16x128.size a)
theorem k0_idx170_inb : ∀ (v2 : IVec S16 32) (v1157 : IVec S16 32) (k0_hw134 : k0_chk134 v2 v1157), ∀ a x, ((![v1157, v2] : Fin 2 → IVec S16 32) a x).toNat < S128x16.size a := fun v2 v1157 k0_hw134 => k0_hw134.1
theorem k0_idx172_inb : ∀ (v2 : IVec S16 32) (v1157 : IVec S16 32) (k0_hw134 : k0_chk134 v2 v1157), ∀ a x, ((![v2, v1157] : Fin 2 → IVec S16 32) a x).toNat < S16x128.size a := fun v2 v1157 k0_hw134 => k0_hw134.2

def k0_chk125 (v2 : IVec S16 32) (v1085 : IVec S16 32) : Prop :=
  (∀ a x, ((![v1085] : Fin 1 → IVec S16 32) a x).toNat < S64.size a) ∧
  (∀ a x, ((![v2, v1085] : Fin 2 → IVec S16 32) a x).toNat < S16x64.size a)
theorem k0_idx161_inb : ∀ (v2 : IVec S16 32) (v1085 : IVec S16 32) (k0_hw125 : k0_chk125 v2 v1085), ∀ a x, ((![v1085] : Fin 1 → IVec S16 32) a x).toNat < S64.size a := fun v2 v1085 k0_hw125 => k0_hw125.1
theorem k0_idx173_inb : ∀ (v2 : IVec S16 32) (v1085 : IVec S16 32) (k0_hw125 : k0_chk125 v2 v1085), ∀ a x, ((![v2, v1085] : Fin 2 → IVec S16 32) a x).toNat < S16x64.size a := fun v2 v1085 k0_hw125 => k0_hw125.2

def k0_chk136 (v2 : IVec S16 32) (v1180 : IVec S16 32) : Prop :=
  (∀ a x, ((![v1180, v2] : Fin 2 → IVec S16 32) a x).toNat < S128x16.size a)
theorem k0_idx175_inb : ∀ (v2 : IVec S16 32) (v1180 : IVec S16 32) (k0_hw136 : k0_chk136 v2 v1180), ∀ a x, ((![v1180, v2] : Fin 2 → IVec S16 32) a x).toNat < S128x16.size a := fun v2 v1180 k0_hw136 => k0_hw136

def k0_chk137 (v2 : IVec S16 32) (v1189 : IVec S16 32) : Prop :=
  (∀ a x, ((![v1189, v2] : Fin 2 → IVec S16 32) a x).toNat < S128x16.size a)
theorem k0_idx176_inb : ∀ (v2 : IVec S16 32) (v1189 : IVec S16 32) (k0_hw137 : k0_chk137 v2 v1189), ∀ a x, ((![v1189, v2] : Fin 2 → IVec S16 32) a x).toNat < S128x16.size a := fun v2 v1189 k0_hw137 => k0_hw137

def k0_chk138 (v2 : IVec S16 32) (v1198 : IVec S16 32) : Prop :=
  (∀ a x, ((![v1198, v2] : Fin 2 → IVec S16 32) a x).toNat < S128x16.size a)
theorem k0_idx177_inb : ∀ (v2 : IVec S16 32) (v1198 : IVec S16 32) (k0_hw138 : k0_chk138 v2 v1198), ∀ a x, ((![v1198, v2] : Fin 2 → IVec S16 32) a x).toNat < S128x16.size a := fun v2 v1198 k0_hw138 => k0_hw138

def k0_chk139 (v2 : IVec S16 32) (v1207 : IVec S16 32) : Prop :=
  (∀ a x, ((![v1207, v2] : Fin 2 → IVec S16 32) a x).toNat < S128x16.size a)
theorem k0_idx178_inb : ∀ (v2 : IVec S16 32) (v1207 : IVec S16 32) (k0_hw139 : k0_chk139 v2 v1207), ∀ a x, ((![v1207, v2] : Fin 2 → IVec S16 32) a x).toNat < S128x16.size a := fun v2 v1207 k0_hw139 => k0_hw139

def k0_chk140 (v2 : IVec S16 32) (v1216 : IVec S16 32) : Prop :=
  (∀ a x, ((![v1216, v2] : Fin 2 → IVec S16 32) a x).toNat < S128x16.size a)
theorem k0_idx179_inb : ∀ (v2 : IVec S16 32) (v1216 : IVec S16 32) (k0_hw140 : k0_chk140 v2 v1216), ∀ a x, ((![v1216, v2] : Fin 2 → IVec S16 32) a x).toNat < S128x16.size a := fun v2 v1216 k0_hw140 => k0_hw140

def k0_chk141 (v2 : IVec S16 32) (v1225 : IVec S16 32) : Prop :=
  (∀ a x, ((![v1225, v2] : Fin 2 → IVec S16 32) a x).toNat < S128x16.size a)
theorem k0_idx180_inb : ∀ (v2 : IVec S16 32) (v1225 : IVec S16 32) (k0_hw141 : k0_chk141 v2 v1225), ∀ a x, ((![v1225, v2] : Fin 2 → IVec S16 32) a x).toNat < S128x16.size a := fun v2 v1225 k0_hw141 => k0_hw141

def k0_chk142 (v2 : IVec S16 32) (v1234 : IVec S16 32) : Prop :=
  (∀ a x, ((![v1234, v2] : Fin 2 → IVec S16 32) a x).toNat < S128x16.size a)
theorem k0_idx181_inb : ∀ (v2 : IVec S16 32) (v1234 : IVec S16 32) (k0_hw142 : k0_chk142 v2 v1234), ∀ a x, ((![v1234, v2] : Fin 2 → IVec S16 32) a x).toNat < S128x16.size a := fun v2 v1234 k0_hw142 => k0_hw142

def k0_chk143 (v2 : IVec S16 32) (v1244 : IVec S16 32) : Prop :=
  (∀ a x, ((![v1244, v2] : Fin 2 → IVec S16 32) a x).toNat < S128x16.size a) ∧
  (∀ a x, ((![v2, v1244] : Fin 2 → IVec S16 32) a x).toNat < S16x128.size a)
theorem k0_idx182_inb : ∀ (v2 : IVec S16 32) (v1244 : IVec S16 32) (k0_hw143 : k0_chk143 v2 v1244), ∀ a x, ((![v1244, v2] : Fin 2 → IVec S16 32) a x).toNat < S128x16.size a := fun v2 v1244 k0_hw143 => k0_hw143.1
theorem k0_idx184_inb : ∀ (v2 : IVec S16 32) (v1244 : IVec S16 32) (k0_hw143 : k0_chk143 v2 v1244), ∀ a x, ((![v2, v1244] : Fin 2 → IVec S16 32) a x).toNat < S16x128.size a := fun v2 v1244 k0_hw143 => k0_hw143.2

def k0_chk144 (v2 : IVec S16 32) (v1246 : IVec S16 32) : Prop :=
  (∀ a x, ((![v1246, v2] : Fin 2 → IVec S16 32) a x).toNat < S128x16.size a) ∧
  (∀ a x, ((![v2, v1246] : Fin 2 → IVec S16 32) a x).toNat < S16x128.size a)
theorem k0_idx183_inb : ∀ (v2 : IVec S16 32) (v1246 : IVec S16 32) (k0_hw144 : k0_chk144 v2 v1246), ∀ a x, ((![v1246, v2] : Fin 2 → IVec S16 32) a x).toNat < S128x16.size a := fun v2 v1246 k0_hw144 => k0_hw144.1
theorem k0_idx185_inb : ∀ (v2 : IVec S16 32) (v1246 : IVec S16 32) (k0_hw144 : k0_chk144 v2 v1246), ∀ a x, ((![v2, v1246] : Fin 2 → IVec S16 32) a x).toNat < S16x128.size a := fun v2 v1246 k0_hw144 => k0_hw144.2

def k0_chk135 (v2 : IVec S16 32) (v1174 : IVec S16 32) : Prop :=
  (∀ a x, ((![v1174] : Fin 1 → IVec S16 32) a x).toNat < S64.size a) ∧
  (∀ a x, ((![v2, v1174] : Fin 2 → IVec S16 32) a x).toNat < S16x64.size a)
theorem k0_idx174_inb : ∀ (v2 : IVec S16 32) (v1174 : IVec S16 32) (k0_hw135 : k0_chk135 v2 v1174), ∀ a x, ((![v1174] : Fin 1 → IVec S16 32) a x).toNat < S64.size a := fun v2 v1174 k0_hw135 => k0_hw135.1
theorem k0_idx186_inb : ∀ (v2 : IVec S16 32) (v1174 : IVec S16 32) (k0_hw135 : k0_chk135 v2 v1174), ∀ a x, ((![v2, v1174] : Fin 2 → IVec S16 32) a x).toNat < S16x64.size a := fun v2 v1174 k0_hw135 => k0_hw135.2

def k0_chk146 (v2 : IVec S16 32) (v1269 : IVec S16 32) : Prop :=
  (∀ a x, ((![v1269, v2] : Fin 2 → IVec S16 32) a x).toNat < S128x16.size a)
theorem k0_idx188_inb : ∀ (v2 : IVec S16 32) (v1269 : IVec S16 32) (k0_hw146 : k0_chk146 v2 v1269), ∀ a x, ((![v1269, v2] : Fin 2 → IVec S16 32) a x).toNat < S128x16.size a := fun v2 v1269 k0_hw146 => k0_hw146

def k0_chk147 (v2 : IVec S16 32) (v1278 : IVec S16 32) : Prop :=
  (∀ a x, ((![v1278, v2] : Fin 2 → IVec S16 32) a x).toNat < S128x16.size a)
theorem k0_idx189_inb : ∀ (v2 : IVec S16 32) (v1278 : IVec S16 32) (k0_hw147 : k0_chk147 v2 v1278), ∀ a x, ((![v1278, v2] : Fin 2 → IVec S16 32) a x).toNat < S128x16.size a := fun v2 v1278 k0_hw147 => k0_hw147

def k0_chk148 (v2 : IVec S16 32) (v1287 : IVec S16 32) : Prop :=
  (∀ a x, ((![v1287, v2] : Fin 2 → IVec S16 32) a x).toNat < S128x16.size a)
theorem k0_idx190_inb : ∀ (v2 : IVec S16 32) (v1287 : IVec S16 32) (k0_hw148 : k0_chk148 v2 v1287), ∀ a x, ((![v1287, v2] : Fin 2 → IVec S16 32) a x).toNat < S128x16.size a := fun v2 v1287 k0_hw148 => k0_hw148

def k0_chk149 (v2 : IVec S16 32) (v1296 : IVec S16 32) : Prop :=
  (∀ a x, ((![v1296, v2] : Fin 2 → IVec S16 32) a x).toNat < S128x16.size a)
theorem k0_idx191_inb : ∀ (v2 : IVec S16 32) (v1296 : IVec S16 32) (k0_hw149 : k0_chk149 v2 v1296), ∀ a x, ((![v1296, v2] : Fin 2 → IVec S16 32) a x).toNat < S128x16.size a := fun v2 v1296 k0_hw149 => k0_hw149

def k0_chk150 (v2 : IVec S16 32) (v1305 : IVec S16 32) : Prop :=
  (∀ a x, ((![v1305, v2] : Fin 2 → IVec S16 32) a x).toNat < S128x16.size a)
theorem k0_idx192_inb : ∀ (v2 : IVec S16 32) (v1305 : IVec S16 32) (k0_hw150 : k0_chk150 v2 v1305), ∀ a x, ((![v1305, v2] : Fin 2 → IVec S16 32) a x).toNat < S128x16.size a := fun v2 v1305 k0_hw150 => k0_hw150

def k0_chk151 (v2 : IVec S16 32) (v1314 : IVec S16 32) : Prop :=
  (∀ a x, ((![v1314, v2] : Fin 2 → IVec S16 32) a x).toNat < S128x16.size a)
theorem k0_idx193_inb : ∀ (v2 : IVec S16 32) (v1314 : IVec S16 32) (k0_hw151 : k0_chk151 v2 v1314), ∀ a x, ((![v1314, v2] : Fin 2 → IVec S16 32) a x).toNat < S128x16.size a := fun v2 v1314 k0_hw151 => k0_hw151

def k0_chk152 (v2 : IVec S16 32) (v1323 : IVec S16 32) : Prop :=
  (∀ a x, ((![v1323, v2] : Fin 2 → IVec S16 32) a x).toNat < S128x16.size a)
theorem k0_idx194_inb : ∀ (v2 : IVec S16 32) (v1323 : IVec S16 32) (k0_hw152 : k0_chk152 v2 v1323), ∀ a x, ((![v1323, v2] : Fin 2 → IVec S16 32) a x).toNat < S128x16.size a := fun v2 v1323 k0_hw152 => k0_hw152

def k0_chk153 (v2 : IVec S16 32) (v1333 : IVec S16 32) : Prop :=
  (∀ a x, ((![v1333, v2] : Fin 2 → IVec S16 32) a x).toNat < S128x16.size a) ∧
  (∀ a x, ((![v2, v1333] : Fin 2 → IVec S16 32) a x).toNat < S16x128.size a)
theorem k0_idx195_inb : ∀ (v2 : IVec S16 32) (v1333 : IVec S16 32) (k0_hw153 : k0_chk153 v2 v1333), ∀ a x, ((![v1333, v2] : Fin 2 → IVec S16 32) a x).toNat < S128x16.size a := fun v2 v1333 k0_hw153 => k0_hw153.1
theorem k0_idx197_inb : ∀ (v2 : IVec S16 32) (v1333 : IVec S16 32) (k0_hw153 : k0_chk153 v2 v1333), ∀ a x, ((![v2, v1333] : Fin 2 → IVec S16 32) a x).toNat < S16x128.size a := fun v2 v1333 k0_hw153 => k0_hw153.2

def k0_chk154 (v2 : IVec S16 32) (v1335 : IVec S16 32) : Prop :=
  (∀ a x, ((![v1335, v2] : Fin 2 → IVec S16 32) a x).toNat < S128x16.size a) ∧
  (∀ a x, ((![v2, v1335] : Fin 2 → IVec S16 32) a x).toNat < S16x128.size a)
theorem k0_idx196_inb : ∀ (v2 : IVec S16 32) (v1335 : IVec S16 32) (k0_hw154 : k0_chk154 v2 v1335), ∀ a x, ((![v1335, v2] : Fin 2 → IVec S16 32) a x).toNat < S128x16.size a := fun v2 v1335 k0_hw154 => k0_hw154.1
theorem k0_idx198_inb : ∀ (v2 : IVec S16 32) (v1335 : IVec S16 32) (k0_hw154 : k0_chk154 v2 v1335), ∀ a x, ((![v2, v1335] : Fin 2 → IVec S16 32) a x).toNat < S16x128.size a := fun v2 v1335 k0_hw154 => k0_hw154.2

def k0_chk145 (v2 : IVec S16 32) (v1263 : IVec S16 32) : Prop :=
  (∀ a x, ((![v1263] : Fin 1 → IVec S16 32) a x).toNat < S64.size a) ∧
  (∀ a x, ((![v2, v1263] : Fin 2 → IVec S16 32) a x).toNat < S16x64.size a)
theorem k0_idx187_inb : ∀ (v2 : IVec S16 32) (v1263 : IVec S16 32) (k0_hw145 : k0_chk145 v2 v1263), ∀ a x, ((![v1263] : Fin 1 → IVec S16 32) a x).toNat < S64.size a := fun v2 v1263 k0_hw145 => k0_hw145.1
theorem k0_idx199_inb : ∀ (v2 : IVec S16 32) (v1263 : IVec S16 32) (k0_hw145 : k0_chk145 v2 v1263), ∀ a x, ((![v2, v1263] : Fin 2 → IVec S16 32) a x).toNat < S16x64.size a := fun v2 v1263 k0_hw145 => k0_hw145.2

def k0_chk156 (v2 : IVec S16 32) (v1358 : IVec S16 32) : Prop :=
  (∀ a x, ((![v1358, v2] : Fin 2 → IVec S16 32) a x).toNat < S128x16.size a)
theorem k0_idx201_inb : ∀ (v2 : IVec S16 32) (v1358 : IVec S16 32) (k0_hw156 : k0_chk156 v2 v1358), ∀ a x, ((![v1358, v2] : Fin 2 → IVec S16 32) a x).toNat < S128x16.size a := fun v2 v1358 k0_hw156 => k0_hw156

def k0_chk157 (v2 : IVec S16 32) (v1367 : IVec S16 32) : Prop :=
  (∀ a x, ((![v1367, v2] : Fin 2 → IVec S16 32) a x).toNat < S128x16.size a)
theorem k0_idx202_inb : ∀ (v2 : IVec S16 32) (v1367 : IVec S16 32) (k0_hw157 : k0_chk157 v2 v1367), ∀ a x, ((![v1367, v2] : Fin 2 → IVec S16 32) a x).toNat < S128x16.size a := fun v2 v1367 k0_hw157 => k0_hw157

def k0_chk158 (v2 : IVec S16 32) (v1376 : IVec S16 32) : Prop :=
  (∀ a x, ((![v1376, v2] : Fin 2 → IVec S16 32) a x).toNat < S128x16.size a)
theorem k0_idx203_inb : ∀ (v2 : IVec S16 32) (v1376 : IVec S16 32) (k0_hw158 : k0_chk158 v2 v1376), ∀ a x, ((![v1376, v2] : Fin 2 → IVec S16 32) a x).toNat < S128x16.size a := fun v2 v1376 k0_hw158 => k0_hw158

def k0_chk159 (v2 : IVec S16 32) (v1385 : IVec S16 32) : Prop :=
  (∀ a x, ((![v1385, v2] : Fin 2 → IVec S16 32) a x).toNat < S128x16.size a)
theorem k0_idx204_inb : ∀ (v2 : IVec S16 32) (v1385 : IVec S16 32) (k0_hw159 : k0_chk159 v2 v1385), ∀ a x, ((![v1385, v2] : Fin 2 → IVec S16 32) a x).toNat < S128x16.size a := fun v2 v1385 k0_hw159 => k0_hw159

def k0_chk160 (v2 : IVec S16 32) (v1394 : IVec S16 32) : Prop :=
  (∀ a x, ((![v1394, v2] : Fin 2 → IVec S16 32) a x).toNat < S128x16.size a)
theorem k0_idx205_inb : ∀ (v2 : IVec S16 32) (v1394 : IVec S16 32) (k0_hw160 : k0_chk160 v2 v1394), ∀ a x, ((![v1394, v2] : Fin 2 → IVec S16 32) a x).toNat < S128x16.size a := fun v2 v1394 k0_hw160 => k0_hw160

def k0_chk161 (v2 : IVec S16 32) (v1403 : IVec S16 32) : Prop :=
  (∀ a x, ((![v1403, v2] : Fin 2 → IVec S16 32) a x).toNat < S128x16.size a)
theorem k0_idx206_inb : ∀ (v2 : IVec S16 32) (v1403 : IVec S16 32) (k0_hw161 : k0_chk161 v2 v1403), ∀ a x, ((![v1403, v2] : Fin 2 → IVec S16 32) a x).toNat < S128x16.size a := fun v2 v1403 k0_hw161 => k0_hw161

def k0_chk162 (v2 : IVec S16 32) (v1412 : IVec S16 32) : Prop :=
  (∀ a x, ((![v1412, v2] : Fin 2 → IVec S16 32) a x).toNat < S128x16.size a)
theorem k0_idx207_inb : ∀ (v2 : IVec S16 32) (v1412 : IVec S16 32) (k0_hw162 : k0_chk162 v2 v1412), ∀ a x, ((![v1412, v2] : Fin 2 → IVec S16 32) a x).toNat < S128x16.size a := fun v2 v1412 k0_hw162 => k0_hw162

def k0_chk163 (v2 : IVec S16 32) (v1422 : IVec S16 32) : Prop :=
  (∀ a x, ((![v1422, v2] : Fin 2 → IVec S16 32) a x).toNat < S128x16.size a) ∧
  (∀ a x, ((![v2, v1422] : Fin 2 → IVec S16 32) a x).toNat < S16x128.size a)
theorem k0_idx208_inb : ∀ (v2 : IVec S16 32) (v1422 : IVec S16 32) (k0_hw163 : k0_chk163 v2 v1422), ∀ a x, ((![v1422, v2] : Fin 2 → IVec S16 32) a x).toNat < S128x16.size a := fun v2 v1422 k0_hw163 => k0_hw163.1
theorem k0_idx210_inb : ∀ (v2 : IVec S16 32) (v1422 : IVec S16 32) (k0_hw163 : k0_chk163 v2 v1422), ∀ a x, ((![v2, v1422] : Fin 2 → IVec S16 32) a x).toNat < S16x128.size a := fun v2 v1422 k0_hw163 => k0_hw163.2

def k0_chk164 (v2 : IVec S16 32) (v1424 : IVec S16 32) : Prop :=
  (∀ a x, ((![v1424, v2] : Fin 2 → IVec S16 32) a x).toNat < S128x16.size a) ∧
  (∀ a x, ((![v2, v1424] : Fin 2 → IVec S16 32) a x).toNat < S16x128.size a)
theorem k0_idx209_inb : ∀ (v2 : IVec S16 32) (v1424 : IVec S16 32) (k0_hw164 : k0_chk164 v2 v1424), ∀ a x, ((![v1424, v2] : Fin 2 → IVec S16 32) a x).toNat < S128x16.size a := fun v2 v1424 k0_hw164 => k0_hw164.1
theorem k0_idx211_inb : ∀ (v2 : IVec S16 32) (v1424 : IVec S16 32) (k0_hw164 : k0_chk164 v2 v1424), ∀ a x, ((![v2, v1424] : Fin 2 → IVec S16 32) a x).toNat < S16x128.size a := fun v2 v1424 k0_hw164 => k0_hw164.2

def k0_chk155 (v2 : IVec S16 32) (v1352 : IVec S16 32) : Prop :=
  (∀ a x, ((![v1352] : Fin 1 → IVec S16 32) a x).toNat < S64.size a) ∧
  (∀ a x, ((![v2, v1352] : Fin 2 → IVec S16 32) a x).toNat < S16x64.size a)
theorem k0_idx200_inb : ∀ (v2 : IVec S16 32) (v1352 : IVec S16 32) (k0_hw155 : k0_chk155 v2 v1352), ∀ a x, ((![v1352] : Fin 1 → IVec S16 32) a x).toNat < S64.size a := fun v2 v1352 k0_hw155 => k0_hw155.1
theorem k0_idx212_inb : ∀ (v2 : IVec S16 32) (v1352 : IVec S16 32) (k0_hw155 : k0_chk155 v2 v1352), ∀ a x, ((![v2, v1352] : Fin 2 → IVec S16 32) a x).toNat < S16x64.size a := fun v2 v1352 k0_hw155 => k0_hw155.2
def k0_off2 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32 : BitVec 32 := 2048#32
  let v6 : BitVec 32 := Scalar.muli v1 c2048_i32
  let c0_i32_1 : BitVec 32 := 0#32
  let c1_i32 : BitVec 32 := 1#32
  let arg11 : BitVec 32 := Scf.iv c0_i32_1 c1_i32 k0_t1
  let c16_i32_3 : BitVec 32 := 16#32
  let v7 : BitVec 32 := Scalar.muli arg11 c16_i32_3
  let v8 : BitVec 32 := Scalar.addi v6 v7
  let c0_i32_12_r3 : BitVec 32 := 0#32
  ![v8.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x128 : Shape := ⟨2, ![65536, 128]⟩
abbrev S_ : Shape := ⟨0, ![]⟩
abbrev S65536x127 : Shape := ⟨2, ![65536, 127]⟩
abbrev S65536x1 : Shape := ⟨2, ![65536, 1]⟩
abbrev S63 : Shape := ⟨1, ![63]⟩
abbrev S1 : Shape := ⟨1, ![1]⟩
abbrev S64 : Shape := ⟨1, ![64]⟩
abbrev S65536x64 : Shape := ⟨2, ![65536, 64]⟩
abbrev S65536x1x127 : Shape := ⟨3, ![65536, 1, 127]⟩
abbrev S65536x64x1 : Shape := ⟨3, ![65536, 64, 1]⟩
abbrev S65536x64x127 : Shape := ⟨3, ![65536, 64, 127]⟩
abbrev S1x1x1 : Shape := ⟨3, ![1, 1, 1]⟩

abbrev nBuf : Space → Nat
  | .hbm => 182
  | .vmem => 0
  | .smem => 0
  | _ => 0

abbrev hbmTy0_0 (i : Nat) : BufTy := match i % 128 with
  | 0 => ⟨S65536x128, .f32⟩
  | 1 => ⟨S65536x128, .f32⟩
  | 2 => ⟨S_, .f32⟩
  | 3 => ⟨S_, .f32⟩
  | 4 => ⟨S_, .f32⟩
  | 5 => ⟨S65536x128, .f32⟩
  | 6 => ⟨S65536x128, .f32⟩
  | 7 => ⟨S_, .f32⟩
  | 8 => ⟨S65536x128, .f32⟩
  | 9 => ⟨S65536x128, .f32⟩
  | 10 => ⟨S65536x128, .f32⟩
  | 11 => ⟨S_, .f32⟩
  | 12 => ⟨S65536x128, .f32⟩
  | 13 => ⟨S65536x128, .f32⟩
  | 14 => ⟨S_, .f32⟩
  | 15 => ⟨S65536x128, .f32⟩
  | 16 => ⟨S65536x128, .i1⟩
  | 17 => ⟨S_, .f32⟩
  | 18 => ⟨S65536x128, .f32⟩
  | 19 => ⟨S65536x128, .f32⟩
  | 20 => ⟨S65536x128, .f32⟩
  | 21 => ⟨S_, .f32⟩
  | 22 => ⟨S65536x128, .f32⟩
  | 23 => ⟨S65536x128, .f32⟩
  | 24 => ⟨S65536x127, .f32⟩
  | 25 => ⟨S65536x127, .f32⟩
  | 26 => ⟨S65536x127, .f32⟩
  | 27 => ⟨S_, .f32⟩
  | 28 => ⟨S65536x1, .f32⟩
  | 29 => ⟨S65536x127, .f32⟩
  | 30 => ⟨S65536x127, .f32⟩
  | 31 => ⟨S_, .f32⟩
  | 32 => ⟨S_, .f32⟩
  | 33 => ⟨S65536x127, .f32⟩
  | 34 => ⟨S65536x128, .f32⟩
  | 35 => ⟨S65536x127, .f32⟩
  | 36 => ⟨S65536x127, .f32⟩
  | 37 => ⟨S65536x127, .f32⟩
  | 38 => ⟨S_, .f32⟩
  | 39 => ⟨S65536x127, .f32⟩
  | 40 => ⟨S65536x127, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S63, .f32⟩
  | 49 => ⟨S_, .f32⟩
  | 50 => ⟨S63, .f32⟩
  | 51 => ⟨S63, .f32⟩
  | 52 => ⟨S1, .f32⟩
  | 53 => ⟨S_, .f32⟩
  | 54 => ⟨S63, .f32⟩
  | 55 => ⟨S63, .f32⟩
  | 56 => ⟨S63, .f32⟩
  | 57 => ⟨S63, .f32⟩
  | 58 => ⟨S1, .f32⟩
  | 59 => ⟨S63, .f32⟩
  | 60 => ⟨S63, .f32⟩
  | 61 => ⟨S63, .f32⟩
  | 62 => ⟨S1, .f32⟩
  | 63 => ⟨S64, .f32⟩
  | 64 => ⟨S65536x64, .f32⟩
  | 65 => ⟨S65536x1x127, .f32⟩
  | 66 => ⟨S65536x64x1, .f32⟩
  | 67 => ⟨S65536x64x127, .f32⟩
  | 68 => ⟨S65536x64x127, .f32⟩
  | 69 => ⟨S65536x64x127, .i1⟩
  | 70 => ⟨S65536x64x127, .i32⟩
  | 71 => ⟨S_, .i32⟩
  | 72 => ⟨S65536x64, .i32⟩
  | 73 => ⟨S_, .i32⟩
  | 74 => ⟨S65536x64, .i32⟩
  | 75 => ⟨S65536x64, .i32⟩
  | 76 => ⟨S_, .i32⟩
  | 77 => ⟨S65536x64, .i32⟩
  | 78 => ⟨S65536x64, .i32⟩
  | 79 => ⟨S_, .i32⟩
  | 80 => ⟨S65536x64, .i32⟩
  | 81 => ⟨S65536x64, .i32⟩
  | 82 => ⟨S_, .i32⟩
  | 83 => ⟨S65536x64, .i32⟩
  | 84 => ⟨S65536x64, .i1⟩
  | 85 => ⟨S_, .i32⟩
  | 86 => ⟨S65536x64, .i32⟩
  | 87 => ⟨S65536x64, .i32⟩
  | 88 => ⟨S65536x64, .i32⟩
  | 89 => ⟨S65536x64x1, .i32⟩
  | 90 => ⟨S1, .i32⟩
  | 91 => ⟨S_, .i32⟩
  | 92 => ⟨S65536x64x1, .i32⟩
  | 93 => ⟨S65536x64x1, .i1⟩
  | 94 => ⟨S1x1x1, .i32⟩
  | 95 => ⟨S65536x64x1, .i32⟩
  | 96 => ⟨S65536x64x1, .i1⟩
  | 97 => ⟨S65536x64x1, .i1⟩
  | 98 => ⟨S_, .i1⟩
  | 99 => ⟨S65536x64, .i1⟩
  | 100 => ⟨S65536x64, .f32⟩
  | 101 => ⟨S_, .f32⟩
  | 102 => ⟨S65536x64, .f32⟩
  | 103 => ⟨S65536x64, .f32⟩
  | 104 => ⟨S_, .i32⟩
  | 105 => ⟨S65536x64, .i32⟩
  | 106 => ⟨S65536x64, .i1⟩
  | 107 => ⟨S_, .i32⟩
  | 108 => ⟨S65536x64, .i32⟩
  | 109 => ⟨S65536x64, .i32⟩
  | 110 => ⟨S65536x64, .i32⟩
  | 111 => ⟨S65536x64x1, .i32⟩
  | 112 => ⟨S1, .i32⟩
  | 113 => ⟨S_, .i32⟩
  | 114 => ⟨S65536x64x1, .i32⟩
  | 115 => ⟨S65536x64x1, .i1⟩
  | 116 => ⟨S1x1x1, .i32⟩
  | 117 => ⟨S65536x64x1, .i32⟩
  | 118 => ⟨S65536x64x1, .i1⟩
  | 119 => ⟨S65536x64x1, .i1⟩
  | 120 => ⟨S_, .i1⟩
  | 121 => ⟨S65536x64, .i1⟩
  | 122 => ⟨S65536x64, .f32⟩
  | 123 => ⟨S_, .f32⟩
  | 124 => ⟨S65536x64, .f32⟩
  | 125 => ⟨S65536x64, .f32⟩
  | 126 => ⟨S_, .i32⟩
  | 127 => ⟨S65536x64, .i32⟩
  | _ => ⟨S65536x128, .f32⟩

abbrev hbmTy0_1 (i : Nat) : BufTy := match i % 128 with
  | 0 => ⟨S65536x64, .i1⟩
  | 1 => ⟨S_, .i32⟩
  | 2 => ⟨S65536x64, .i32⟩
  | 3 => ⟨S65536x64, .i32⟩
  | 4 => ⟨S65536x64, .i32⟩
  | 5 => ⟨S65536x64x1, .i32⟩
  | 6 => ⟨S1, .i32⟩
  | 7 => ⟨S_, .i32⟩
  | 8 => ⟨S65536x64x1, .i32⟩
  | 9 => ⟨S65536x64x1, .i1⟩
  | 10 => ⟨S1x1x1, .i32⟩
  | 11 => ⟨S65536x64x1, .i32⟩
  | 12 => ⟨S65536x64x1, .i1⟩
  | 13 => ⟨S65536x64x1, .i1⟩
  | 14 => ⟨S_, .i1⟩
  | 15 => ⟨S65536x64, .i1⟩
  | 16 => ⟨S65536x64, .f32⟩
  | 17 => ⟨S_, .f32⟩
  | 18 => ⟨S65536x64, .f32⟩
  | 19 => ⟨S65536x64, .f32⟩
  | 20 => ⟨S_, .i32⟩
  | 21 => ⟨S65536x64, .i32⟩
  | 22 => ⟨S65536x64, .i1⟩
  | 23 => ⟨S_, .i32⟩
  | 24 => ⟨S65536x64, .i32⟩
  | 25 => ⟨S65536x64, .i32⟩
  | 26 => ⟨S65536x64, .i32⟩
  | 27 => ⟨S65536x64x1, .i32⟩
  | 28 => ⟨S1, .i32⟩
  | 29 => ⟨S_, .i32⟩
  | 30 => ⟨S65536x64x1, .i32⟩
  | 31 => ⟨S65536x64x1, .i1⟩
  | 32 => ⟨S1x1x1, .i32⟩
  | 33 => ⟨S65536x64x1, .i32⟩
  | 34 => ⟨S65536x64x1, .i1⟩
  | 35 => ⟨S65536x64x1, .i1⟩
  | 36 => ⟨S_, .i1⟩
  | 37 => ⟨S65536x64, .i1⟩
  | 38 => ⟨S65536x64, .f32⟩
  | 39 => ⟨S_, .f32⟩
  | 40 => ⟨S65536x64, .f32⟩
  | 41 => ⟨S65536x64, .f32⟩
  | 42 => ⟨S65536x64, .f32⟩
  | 43 => ⟨S_, .f32⟩
  | 44 => ⟨S65536x64, .f32⟩
  | 45 => ⟨S65536x64, .i1⟩
  | 46 => ⟨S_, .f32⟩
  | 47 => ⟨S65536x64, .f32⟩
  | 48 => ⟨S65536x64, .f32⟩
  | 49 => ⟨S65536x64, .f32⟩
  | 50 => ⟨S65536x64, .f32⟩
  | 51 => ⟨S65536x64, .f32⟩
  | 52 => ⟨S65536x64, .f32⟩
  | 53 => ⟨S65536x64, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call1_call0_cst : Ref sig .tc := ⟨.hbm, 31, rfl⟩
abbrev main_call1_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_cst_8 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_cst : Ref sig .tc := ⟨.hbm, 46, rfl⟩
abbrev main_call2_v3 : Ref sig .tc := ⟨.hbm, 47, rfl⟩
abbrev main_call2_v4 : Ref sig .tc := ⟨.hbm, 48, rfl⟩
abbrev main_call2_cst_0 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_cst_1 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_v12 : Ref sig .tc := ⟨.hbm, 58, rfl⟩
abbrev main_call2_v13 : Ref sig .tc := ⟨.hbm, 59, rfl⟩
abbrev main_call2_v14 : Ref sig .tc := ⟨.hbm, 60, rfl⟩
abbrev main_call2_v15 : Ref sig .tc := ⟨.hbm, 61, rfl⟩
abbrev main_call2_v16 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c : Ref sig .tc := ⟨.hbm, 71, rfl⟩
abbrev main_v37 : Ref sig .tc := ⟨.hbm, 72, rfl⟩
abbrev main_c_9 : Ref sig .tc := ⟨.hbm, 73, rfl⟩
abbrev main_v38 : Ref sig .tc := ⟨.hbm, 74, rfl⟩
abbrev main_v39 : Ref sig .tc := ⟨.hbm, 75, rfl⟩
abbrev main_c_10 : Ref sig .tc := ⟨.hbm, 76, rfl⟩
abbrev main_v40 : Ref sig .tc := ⟨.hbm, 77, rfl⟩
abbrev main_v41 : Ref sig .tc := ⟨.hbm, 78, rfl⟩
abbrev main_c_11 : Ref sig .tc := ⟨.hbm, 79, rfl⟩
abbrev main_v42 : Ref sig .tc := ⟨.hbm, 80, rfl⟩
abbrev main_v43 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_cst : Ref sig .tc := ⟨.hbm, 101, rfl⟩
abbrev main_call3_v14 : Ref sig .tc := ⟨.hbm, 102, rfl⟩
abbrev main_v44 : Ref sig .tc := ⟨.hbm, 103, rfl⟩
abbrev main_call4_c : Ref sig .tc := ⟨.hbm, 104, rfl⟩
abbrev main_call4_v0 : Ref sig .tc := ⟨.hbm, 105, rfl⟩
abbrev main_call4_v1 : Ref sig .tc := ⟨.hbm, 106, rfl⟩
abbrev main_call4_c_0 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_c_1 : Ref sig .tc := ⟨.hbm, 112, rfl⟩
abbrev main_call4_c_2 : Ref sig .tc := ⟨.hbm, 113, rfl⟩
abbrev main_call4_v6 : Ref sig .tc := ⟨.hbm, 114, rfl⟩
abbrev main_call4_v7 : Ref sig .tc := ⟨.hbm, 115, rfl⟩
abbrev main_call4_v8 : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_call4_c_3 : Ref sig .tc := ⟨.hbm, 120, rfl⟩
abbrev main_call4_v12 : Ref sig .tc := ⟨.hbm, 121, rfl⟩
abbrev main_call4_v13 : Ref sig .tc := ⟨.hbm, 122, rfl⟩
abbrev main_call4_cst : Ref sig .tc := ⟨.hbm, 123, rfl⟩
abbrev main_call4_v14 : Ref sig .tc := ⟨.hbm, 124, rfl⟩
abbrev main_v45 : Ref sig .tc := ⟨.hbm, 125, rfl⟩
abbrev main_call5_c : Ref sig .tc := ⟨.hbm, 126, rfl⟩
abbrev main_call5_v0 : Ref sig .tc := ⟨.hbm, 127, rfl⟩
abbrev main_call5_v1 : Ref sig .tc := ⟨.hbm, 128, rfl⟩
abbrev main_call5_c_0 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_call5_v5 : Ref sig .tc := ⟨.hbm, 133, rfl⟩
abbrev main_call5_c_1 : Ref sig .tc := ⟨.hbm, 134, rfl⟩
abbrev main_call5_c_2 : Ref sig .tc := ⟨.hbm, 135, rfl⟩
abbrev main_call5_v6 : Ref sig .tc := ⟨.hbm, 136, rfl⟩
abbrev main_call5_v7 : Ref sig .tc := ⟨.hbm, 137, rfl⟩
abbrev main_call5_v8 : Ref sig .tc := ⟨.hbm, 138, rfl⟩
abbrev main_call5_v9 : Ref sig .tc := ⟨.hbm, 139, rfl⟩
abbrev main_call5_v10 : Ref sig .tc := ⟨.hbm, 140, rfl⟩
abbrev main_call5_v11 : Ref sig .tc := ⟨.hbm, 141, rfl⟩
abbrev main_call5_c_3 : Ref sig .tc := ⟨.hbm, 142, rfl⟩
abbrev main_call5_v12 : Ref sig .tc := ⟨.hbm, 143, rfl⟩
abbrev main_call5_v13 : Ref sig .tc := ⟨.hbm, 144, rfl⟩
abbrev main_call5_cst : Ref sig .tc := ⟨.hbm, 145, rfl⟩
abbrev main_call5_v14 : Ref sig .tc := ⟨.hbm, 146, rfl⟩
abbrev main_v46 : Ref sig .tc := ⟨.hbm, 147, rfl⟩
abbrev main_call6_c : Ref sig .tc := ⟨.hbm, 148, rfl⟩
abbrev main_call6_v0 : Ref sig .tc := ⟨.hbm, 149, rfl⟩
abbrev main_call6_v1 : Ref sig .tc := ⟨.hbm, 150, rfl⟩
abbrev main_call6_c_0 : Ref sig .tc := ⟨.hbm, 151, rfl⟩
abbrev main_call6_v2 : Ref sig .tc := ⟨.hbm, 152, rfl⟩
abbrev main_call6_v3 : Ref sig .tc := ⟨.hbm, 153, rfl⟩
abbrev main_call6_v4 : Ref sig .tc := ⟨.hbm, 154, rfl⟩
abbrev main_call6_v5 : Ref sig .tc := ⟨.hbm, 155, rfl⟩
abbrev main_call6_c_1 : Ref sig .tc := ⟨.hbm, 156, rfl⟩
abbrev main_call6_c_2 : Ref sig .tc := ⟨.hbm, 157, rfl⟩
abbrev main_call6_v6 : Ref sig .tc := ⟨.hbm, 158, rfl⟩
abbrev main_call6_v7 : Ref sig .tc := ⟨.hbm, 159, rfl⟩
abbrev main_call6_v8 : Ref sig .tc := ⟨.hbm, 160, rfl⟩
abbrev main_call6_v9 : Ref sig .tc := ⟨.hbm, 161, rfl⟩
abbrev main_call6_v10 : Ref sig .tc := ⟨.hbm, 162, rfl⟩
abbrev main_call6_v11 : Ref sig .tc := ⟨.hbm, 163, rfl⟩
abbrev main_call6_c_3 : Ref sig .tc := ⟨.hbm, 164, rfl⟩
abbrev main_call6_v12 : Ref sig .tc := ⟨.hbm, 165, rfl⟩
abbrev main_call6_v13 : Ref sig .tc := ⟨.hbm, 166, rfl⟩
abbrev main_call6_cst : Ref sig .tc := ⟨.hbm, 167, rfl⟩
abbrev main_call6_v14 : Ref sig .tc := ⟨.hbm, 168, rfl⟩
abbrev main_v47 : Ref sig .tc := ⟨.hbm, 169, rfl⟩
abbrev main_v48 : Ref sig .tc := ⟨.hbm, 170, rfl⟩
abbrev main_cst_12 : Ref sig .tc := ⟨.hbm, 171, rfl⟩
abbrev main_v49 : Ref sig .tc := ⟨.hbm, 172, rfl⟩
abbrev main_v50 : Ref sig .tc := ⟨.hbm, 173, rfl⟩
abbrev main_cst_13 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩

abbrev nD : Nat := 1
abbrev τ : Topo := Topo.v7x

variable {F : FTy → Type} [FloatOps F]
-- ==== Proof.Fragment.lean ====
/- The query loop of the kernel, as sixteen uses of one program: a query reads its sample position, runs seven
   probes of the binary search over the cumulative table, reads the two bracketing entries of the table and of the
   depths, and stores one column of the block of results. The printed loop body is the sixteen in sequence, by
   unfolding, so that everything said of one query is said once. -/
module

public import proofs.«01_k».proof.Proof.Gen.KernelIdeal
public import proofs.«01_k».proof.Proof.Gen.KernelIdeal.Skeleton

@[expose] public section

noncomputable section

namespace Cert.KernelIdeal.Hand

open Cert.KernelIdeal Cert.KernelIdeal.Gen Idealize.ShloMosaic Idealize.SL.Sem

variable {F : FTy → Type} [FloatOps F]

/-- The programs of the tile at grid coordinates `i`. -/
abbrev Tile (i : grid0.Coords) (α : Type) : Type 1 :=
  Prog (TpuEff nD τ sig (Elt F) Λ₀ (.scVector ((i 0).castLE hcore0) ((i 1).castLE hsub0))) α

/-- The entry a probe reads: half way between the two bounds, rounded down. -/
def middle (lo hi : IVec S16 32) : IVec S16 32 := shrui (addi lo hi) (broadcast S16 1#32)

/-- The lower bound after a probe that read `c` for the position `u`. -/
def lower (u c : Vec F S16 .f32) (lo hi : IVec S16 32) : IVec S16 32 :=
  select (cmpf (φ := .f32) .olt c u) (addi (middle lo hi) (broadcast S16 1#32)) lo

/-- The upper bound after a probe that read `c` for the position `u`. -/
def upper (u c : Vec F S16 .f32) (lo hi : IVec S16 32) : IVec S16 32 :=
  select (cmpf (φ := .f32) .olt c u) hi (middle lo hi)

/-- One probe of the binary search: read the table at the middle, go on with the new bounds. -/
def probe {α : Type} (i : grid0.Coords) (tab : Memref sig .scVector .vmem S128x16 .f32) (lane : IVec S16 32) (u : Vec F S16 .f32)
    (lo hi : IVec S16 32) (k : IVec S16 32 → IVec S16 32 → Tile (F := F) i α) : Tile (F := F) i α := do
  have hw : k0_chk6 lane (middle lo hi) := (← Prog.lift (TpuEff.assume (k0_chk6 lane (middle lo hi)) (k0_chk6.dec lane (middle lo hi)))).down
  let c : Vec F S16 .f32 ← SparseCore.vectorLoadIdx tab ![middle lo hi, lane] (k0_idx6_inb lane (middle lo hi) hw) (View.loads_vmem h_S128x16)
  k (lower u c lo hi) (upper u c lo hi)

/-- `n` probes in sequence, then the lower bound they leave. -/
def search {α : Type} (i : grid0.Coords) (tab : Memref sig .scVector .vmem S128x16 .f32) (lane : IVec S16 32) (u : Vec F S16 .f32) :
    Nat → IVec S16 32 → IVec S16 32 → (IVec S16 32 → Tile (F := F) i α) → Tile (F := F) i α
  | 0, lo, _, k => k lo
  | n + 1, lo, hi, k => probe i tab lane u lo hi fun lo hi => search i tab lane u n lo hi k

/-- The end of a query, at the found place `lo`: the bracketing entries, the interpolated depth, its store. -/
def finish {α : Type} (i : grid0.Coords) (dep : Memref sig .scVector .vmem S16x128 .f32) (tab : Memref sig .scVector .vmem S128x16 .f32)
    (out : Memref sig .scVector .vmem S16x64 .f32) (lane col : IVec S16 32) (hcol : k0_chk5 lane col) (u : Vec F S16 .f32)
    (lo : IVec S16 32) (k : Tile (F := F) i α) : Tile (F := F) i α := do
  have below : IVec S16 32 := maxsi (subi lo (broadcast S16 1#32)) (broadcast S16 0#32)
  have hb : k0_chk13 lane below := (← Prog.lift (TpuEff.assume (k0_chk13 lane below) (k0_chk13.dec lane below))).down
  have above : IVec S16 32 := minsi lo (broadcast S16 126#32)
  have ha : k0_chk14 lane above := (← Prog.lift (TpuEff.assume (k0_chk14 lane above) (k0_chk14.dec lane above))).down
  let c0 : Vec F S16 .f32 ← SparseCore.vectorLoadIdx tab ![below, lane] (k0_idx13_inb lane below hb) (View.loads_vmem h_S128x16)
  let c1 : Vec F S16 .f32 ← SparseCore.vectorLoadIdx tab ![above, lane] (k0_idx14_inb lane above ha) (View.loads_vmem h_S128x16)
  let b0 : Vec F S16 .f32 ← SparseCore.vectorLoadIdx dep ![lane, below] (k0_idx15_inb lane below hb) (View.loads_vmem h_S16x128)
  let b1 : Vec F S16 .f32 ← SparseCore.vectorLoadIdx dep ![lane, above] (k0_idx16_inb lane above ha) (View.loads_vmem h_S16x128)
  SparseCore.vectorStoreIdx out ![lane, col] (k0_pay5 u c0 c1 b0 b1) (fun _ => 1#1) false (k0_idx17_inb lane col hcol) (View.stores_vmem_bits_univ h_S16x64 rfl)
  k

/-- One query: column `16 g + j` of the block of results. -/
def query {α : Type} (i : grid0.Coords) (dep : Memref sig .scVector .vmem S16x128 .f32) (tab : Memref sig .scVector .vmem S128x16 .f32)
    (out : Memref sig .scVector .vmem S16x64 .f32) (pos : Memref sig .scVector .vmem S64 .f32) (lane : IVec S16 32)
    (g : BitVec 32) (j : Nat) (k : Tile (F := F) i α) : Tile (F := F) i α := do
  have col : IVec S16 32 := broadcast S16 (Scalar.addi (Scalar.muli g 16#32) (BitVec.ofNat 32 j))
  have hcol : k0_chk5 lane col := (← Prog.lift (TpuEff.assume (k0_chk5 lane col) (k0_chk5.dec lane col))).down
  let u : Vec F S16 .f32 ← SparseCore.vectorLoadIdx pos ![col] (k0_idx5_inb lane col hcol) (View.loads_vmem h_S64)
  search i tab lane u 7 (broadcast S16 0#32) (broadcast S16 127#32) fun lo => finish i dep tab out lane col hcol u lo k

/-- The queries of the columns `16 g + j`, `j` from `s` on, `n` of them. -/
def queries (i : grid0.Coords) (dep : Memref sig .scVector .vmem S16x128 .f32) (tab : Memref sig .scVector .vmem S128x16 .f32)
    (out : Memref sig .scVector .vmem S16x64 .f32) (pos : Memref sig .scVector .vmem S64 .f32) (lane : IVec S16 32)
    (g : BitVec 32) (s n : Nat) : Tile (F := F) i (BitVec 32) :=
  (List.range' s n).foldr (fun j k => query i dep tab out pos lane g j k) (pure 0#32)

set_option maxRecDepth 65536 in
set_option maxHeartbeats 4000000 in
/-- A trip of the query loop is its sixteen queries in sequence. -/
theorem trip_eq (i : grid0.Coords) (arg2 : Memref sig .scVector .hbm S65536x128 .f32) (harg2 : arg2.IsWhole) (arg3 : Memref sig .scVector .hbm S65536x128 .f32)
    (harg3 : arg3.IsWhole) (arg4 : Memref sig .scVector .hbm S64 .f32) (harg4 : arg4.IsWhole) (arg5 : Memref sig .scVector .hbm S65536x64 .f32)
    (harg5 : arg5.IsWhole) (arg6 : Memref sig .scVector .vmem S16x128 .f32) (harg6 : arg6.IsWhole) (arg7 : Memref sig .scVector .vmem S16x128 .f32)
    (harg7 : arg7.IsWhole) (arg8 : Memref sig .scVector .vmem S128x16 .f32) (harg8 : arg8.IsWhole) (arg9 : Memref sig .scVector .vmem S16x64 .f32)
    (harg9 : arg9.IsWhole) (arg10 : Memref sig .scVector .vmem S64 .f32) (harg10 : arg10.IsWhole)
    (r0 r1 r2 r3 : DmaSems sig S_) (lane : IVec S16 32) (t : Fin k0_t3_loop.trips) (w : BitVec 32) :
    k0_t3_body (F := F) i arg2 harg2 arg3 harg3 arg4 harg4 arg5 harg5 arg6 harg6 arg7 harg7 arg8 harg8 arg9 harg9 arg10 harg10 r0 r1 r2 r3 lane t w
      = queries i arg6 arg8 arg9 arg10 lane (Scf.iv 0#32 1#32 t) 0 16 := rfl

end Cert.KernelIdeal.Hand

end
-- ==== Proof.Spec.lean ====
/- What the kernel computes, as plain functions over any float values: the running sum of one block of sixteen rays,
   its cumulative table, the place a binary search of that table finds for a sample position, and the depth
   interpolated there. Then what indexed loads and stores read and leave, and what one probe of the search does to
   its two bounds. -/
module

public import proofs.«01_k».proof.Proof.Fragment
public import Idealize.ShloMosaic.Lib.Pointwise.Index

@[expose] public section

noncomputable section

namespace Cert.KernelIdeal.Hand

open Cert.KernelIdeal Cert.KernelIdeal.Gen Idealize.ShloMosaic Idealize.SL.Sem

variable {F : FTy → Type}

/-! ## The values -/

/-- Sample `j` of each of a block's sixteen rays. -/
def sample (D : Vec F S16x128 .f32) (j : Nat) : Vec F S16 .f32 := fun x => D (ix2 (n0 := 16) (n1 := 128) (x 0) (Fin.ofNat 128 j))

/-- The binary search: `k` more probes from the lower bound `a`, `p j` telling whether entry `j` is below the position. -/
def seek (p : Nat → Bool) : Nat → Nat → Nat
  | 0, a => a
  | k + 1, a => seek p k (if p (a + 2 ^ k - 1) then a + 2 ^ k else a)

variable [FloatOps F]

/-- The running sum of density times length before sample `i` (`D` the block's depths, `S` its signed distances). -/
def total (D S : Vec F S16x128 .f32) : Nat → FVec F S16 .f32
  | 0 => k0_pay1
  | i + 1 => k0_pay3 (total D S i) (sample D i) (sample D (i + 1)) (sample S i)

/-- Entry `i` of the cumulative table. -/
def entry (D S : Vec F S16x128 .f32) (i : Nat) : Vec F S16 .f32 := k0_pay2 (total D S i)

/-- Whether entry `j` of ray `x`'s table lies below `u`. -/
def below (D S : Vec F S16x128 .f32) (u : F .f32) (x : S16.Idx) (j : Nat) : Bool :=
  (FloatOps.cmpf (φ := .f32) .olt (entry D S j x) u).getLsbD 0

/-- The place found for the position `u` in ray `x`'s table. -/
def place (D S : Vec F S16x128 .f32) (u : F .f32) (x : S16.Idx) : Nat := seek (below D S u x) 7 0

/-- The interpolated depths of the sixteen rays at the position `u`. -/
def depthAt (D S : Vec F S16x128 .f32) (u : F .f32) : Vec F S16 .f32 :=
  k0_pay5 (broadcast S16 u)
    (fun x => entry D S (place D S u x - 1) x) (fun x => entry D S (min (place D S u x) 126) x)
    (fun x => sample D (place D S u x - 1) x) (fun x => sample D (min (place D S u x) 126) x)

/-- Position `q` of the sample positions. -/
def position (U : Vec F S64 .f32) (q : Nat) : F .f32 := U (ix1 (n0 := 64) (Fin.ofNat 64 q))

/-- A block of results: row `y 0` is a ray, column `y 1` a sample position. -/
def blockOut (D S : Vec F S16x128 .f32) (U : Vec F S64 .f32) : Vec F S16x64 .f32 :=
  fun y => depthAt D S (position U (y 1).val) (ix1 (n0 := 16) (y 0))

/-- The block of sixteen rows that holds row `r`. -/
def blockRows (A : Vec F S65536x128 .f32) (r : Nat) : Vec F S16x128 .f32 :=
  fun y => A (ix2 (n0 := 65536) (n1 := 128) (Fin.ofNat 65536 (16 * (r / 16) + (y 0).val)) (y 1))

/-- The whole result: each row from its own block. -/
def result (D S : Vec F S65536x128 .f32) (U : Vec F S64 .f32) : Vec F S65536x64 .f32 :=
  fun y => blockOut (blockRows D (y 0).val) (blockRows S (y 0).val) U
    (ix2 (n0 := 16) (n1 := 64) (Fin.ofNat 16 (y 0).val) (y 1))

/-! ## Indexed loads and stores at an index -/

omit [FloatOps F] in
/-- A gather out of a table reads the entry its two index vectors name. -/
theorem loadIdx_at {n0 n1 : Nat} {t : Shape} {e : EltTy} (f : Vec F ⟨2, ![n0, n1]⟩ e) (r c : IVec t 32)
    (h : ∀ a x, ((![r, c] : Fin 2 → IVec t 32) a x).toNat < (⟨2, ![n0, n1]⟩ : Shape).size a) (x : t.Idx) (a : Fin n0) (b : Fin n1)
    (ha : (r x).toNat = a.val) (hb : (c x).toNat = b.val) : loadIdx f ![r, c] h x = f (ix2 a b) := by
  unfold loadIdx idxAt
  congr 1
  funext k
  match k with
  | 0 => exact Fin.ext ha
  | 1 => exact Fin.ext hb

omit [FloatOps F] in
/-- A gather out of a line reads the entry its index vector names. -/
theorem loadIdx_line {n0 : Nat} {t : Shape} {e : EltTy} (f : Vec F ⟨1, ![n0]⟩ e) (r : IVec t 32)
    (h : ∀ a x, ((![r] : Fin 1 → IVec t 32) a x).toNat < (⟨1, ![n0]⟩ : Shape).size a) (x : t.Idx) (a : Fin n0)
    (ha : (r x).toNat = a.val) : loadIdx f ![r] h x = f (ix1 a) := by
  unfold loadIdx idxAt
  congr 1
  funext k
  match k with
  | 0 => exact Fin.ext ha

/-- Stores of a list one after the other, read where no store of the list goes. -/
theorem foldl_miss {ι κ β : Type} (P : κ → ι → Prop) [∀ k j, Decidable (P k j)] (w : κ → β) :
    ∀ (l : List κ) (g : ι → β) (j : ι), (∀ k ∈ l, ¬ P k j) →
      l.foldl (fun g k => fun j => if P k j then w k else g j) g j = g j
  | [], _, _, _ => rfl
  | k :: l, g, j, h => by
      rw [List.foldl_cons, foldl_miss P w l _ j fun k' hk' => h k' (List.mem_cons_of_mem _ hk'), if_neg (h k List.mem_cons_self)]

/-- Stores of a list one after the other, read where exactly one of them goes. -/
theorem foldl_hit {ι κ β : Type} (P : κ → ι → Prop) [∀ k j, Decidable (P k j)] (w : κ → β) (j : ι) (k₀ : κ)
    (hk : P k₀ j) (hu : ∀ k, P k j → k = k₀) :
    ∀ (l : List κ) (g : ι → β), k₀ ∈ l ∨ g j = w k₀ →
      l.foldl (fun g k => fun j => if P k j then w k else g j) g j = w k₀
  | [], g, h => h.resolve_left List.not_mem_nil
  | k :: l, g, h => by
      rw [List.foldl_cons]
      refine foldl_hit P w j k₀ hk hu l _ ?_
      by_cases e : P k j
      · exact .inr ((if_pos e).trans (congrArg w (hu k e)))
      · rcases h with h | h
        · rcases List.mem_cons.mp h with rfl | h
          · exact absurd hk e
          · exact .inl h
        · exact .inr ((if_neg e).trans h)

omit [FloatOps F] in
/-- An unmasked scatter as stores one after the other. -/
theorem storeIdx_foldl [FloatOps F] {d : Fin 1 → Nat} {s : Shape} {e : EltTy} (f : Vec F s e) (idxs : Fin s.rank → IVec ⟨1, d⟩ 32)
    (v : Vec F ⟨1, d⟩ e) (h : ∀ a x, (idxs a x).toNat < s.size a) :
    storeIdx f idxs v (fun _ => 1#1) false h
      = (List.finRange (d 0)).foldl (fun g k => fun j => if ∀ a, (j a).val = (idxs a (Shape.ofLane k)).toNat then v (Shape.ofLane k) else g j) f := by
  unfold storeIdx idxAt
  simp

/-- A scatter of one value per row into one column of a table. -/
theorem storeIdx_column {n : Nat} {e : EltTy} (f : Vec F ⟨2, ![16, n]⟩ e) (r c : IVec S16 32) (v : Vec F S16 e)
    (h : ∀ a x, ((![r, c] : Fin 2 → IVec S16 32) a x).toNat < (⟨2, ![16, n]⟩ : Shape).size a)
    (q : Nat) (hr : ∀ x, (r x).toNat = (x 0).val) (hc : ∀ x, (c x).toNat = q) (y : (⟨2, ![16, n]⟩ : Shape).Idx) :
    storeIdx (d := ![16]) f ![r, c] v (fun _ => 1#1) false h y
      = if (y 1).val = q then v (ix1 (n0 := 16) (y 0)) else f y := by
  rw [storeIdx_foldl]
  by_cases hq : (y 1).val = q
  · rw [if_pos hq]
    have hy : Shape.ofLane (d := ![16]) (y 0) = ix1 (n0 := 16) (y 0) := by
      funext k; match k with | 0 => rfl
    rw [← hy]
    refine foldl_hit (fun k j => ∀ a, (j a).val = ((![r, c] : Fin 2 → IVec S16 32) a (Shape.ofLane (d := ![16]) k)).toNat)
      (fun k => v (Shape.ofLane (d := ![16]) k)) y (y 0) ?_ ?_ _ _ (.inl (List.mem_finRange _))
    · intro a
      match a with
      | 0 => exact (hr (Shape.ofLane (d := ![16]) (y 0))).symm
      | 1 => exact hq.trans (hc _).symm
    · intro k hk
      exact Fin.ext ((hk 0).trans (hr _)).symm
  · rw [if_neg hq]
    refine foldl_miss _ (fun k => v (Shape.ofLane (d := ![16]) k)) _ _ _ fun k _ hk => hq ((hk 1).trans (hc _))

/-- A scatter of one value per column into one row of a table. -/
theorem storeIdx_row {n : Nat} {e : EltTy} (f : Vec F ⟨2, ![n, 16]⟩ e) (r c : IVec S16 32) (v : Vec F S16 e)
    (h : ∀ a x, ((![r, c] : Fin 2 → IVec S16 32) a x).toNat < (⟨2, ![n, 16]⟩ : Shape).size a)
    (q : Nat) (hr : ∀ x, (r x).toNat = q) (hc : ∀ x, (c x).toNat = (x 0).val) (y : (⟨2, ![n, 16]⟩ : Shape).Idx) :
    storeIdx (d := ![16]) f ![r, c] v (fun _ => 1#1) false h y
      = if (y 0).val = q then v (ix1 (n0 := 16) (y 1)) else f y := by
  rw [storeIdx_foldl]
  by_cases hq : (y 0).val = q
  · rw [if_pos hq]
    have hy : Shape.ofLane (d := ![16]) (y 1) = ix1 (n0 := 16) (y 1) := by
      funext k; match k with | 0 => rfl
    rw [← hy]
    refine foldl_hit (fun k j => ∀ a, (j a).val = ((![r, c] : Fin 2 → IVec S16 32) a (Shape.ofLane (d := ![16]) k)).toNat)
      (fun k => v (Shape.ofLane (d := ![16]) k)) y (y 1) ?_ ?_ _ _ (.inl (List.mem_finRange _))
    · intro a
      match a with
      | 0 => exact hq.trans (hr _).symm
      | 1 => exact (hc (Shape.ofLane (d := ![16]) (y 1))).symm
    · intro k hk
      exact Fin.ext ((hk 1).trans (hc _)).symm
  · rw [if_neg hq]
    refine foldl_miss _ (fun k => v (Shape.ofLane (d := ![16]) k)) _ _ _ fun k _ hk => hq ((hk 0).trans (hr _))

/-! ## One probe's bounds -/

/-- With `k` probes left the bounds of lane `x` are `a x` and `a x + 2 ^ k - 1`, both places of the table. -/
def Bounds (k : Nat) (a : S16.Idx → Nat) (lo hi : IVec S16 32) : Prop :=
  ∀ x, a x + 2 ^ k ≤ 128 ∧ (lo x).toNat = a x ∧ (hi x).toNat = a x + 2 ^ k - 1

/-- The entry read by the next probe. -/
theorem middle_at {k : Nat} {a : S16.Idx → Nat} {lo hi : IVec S16 32} (h : Bounds (k + 1) a lo hi) (x : S16.Idx) :
    (middle lo hi x).toNat = a x + 2 ^ k - 1 := by
  obtain ⟨h1, h2, h3⟩ := h x
  have hp : 0 < 2 ^ k := Nat.two_pow_pos k
  rw [Nat.pow_succ] at h1 h3
  show (IntOp.shrui .vector (IntOp.addi (lo x) (hi x)) 1#32).toNat = _
  have e : IntOp.shrui .vector (IntOp.addi (lo x) (hi x)) 1#32 = (lo x + hi x) >>> (1#32) := rfl
  rw [e, BitVec.ushiftRight_eq', BitVec.toNat_ushiftRight, BitVec.toNat_add, h2, h3]
  show (_ % _) >>> 1 = _
  rw [Nat.shiftRight_eq_div_pow, Nat.mod_eq_of_lt (by omega)]
  omega

/-- The lower bound after a probe. -/
def stepped (k : Nat) (u c : Vec F S16 .f32) (a : S16.Idx → Nat) : S16.Idx → Nat :=
  fun x => if (FloatOps.cmpf (φ := .f32) .olt (c x) (u x)).getLsbD 0 then a x + 2 ^ k else a x

/-- After a probe the bounds are half as far apart. -/
theorem bounds_step {k : Nat} {a : S16.Idx → Nat} {lo hi : IVec S16 32} (h : Bounds (k + 1) a lo hi) (u c : Vec F S16 .f32) :
    Bounds k (stepped k u c a) (lower u c lo hi) (upper u c lo hi) := by
  intro x
  have hm := middle_at h x
  obtain ⟨h1, h2, h3⟩ := h x
  have hp : 0 < 2 ^ k := Nat.two_pow_pos k
  rw [Nat.pow_succ] at h1 h3
  have e1 : lower u c lo hi x = Scalar.select (FloatOps.cmpf (φ := .f32) .olt (c x) (u x)) (middle lo hi x + 1#32) (lo x) := rfl
  have e2 : upper u c lo hi x = Scalar.select (FloatOps.cmpf (φ := .f32) .olt (c x) (u x)) (hi x) (middle lo hi x) := rfl
  rw [e1, e2]
  unfold stepped Scalar.select
  rcases BitVec.eq_zero_or_eq_one (FloatOps.cmpf (φ := .f32) .olt (c x) (u x)) with e | e <;> rw [e]
  · refine ⟨?_, ?_, ?_⟩ <;> simp <;> omega
  · refine ⟨?_, ?_, ?_⟩
    · simp; omega
    · simp [hm, BitVec.toNat_add]; omega
    · simp; omega

end Cert.KernelIdeal.Hand

end
-- ==== Proof.Setup.lean ====
/- The program as the launch theorem for SparseCore calls sees it, and the resource algebra of the run: the
   handshakes' rounds beside the local transfers' counters. -/
module

public import proofs.«01_k».proof.Proof.Spec
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the call's semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The resources of a run. -/
abbrev MM (F : FTy → Type) := MT nD τ sig (HIx 1) (Elt F) ℕ UU ℕ

/-- The handshakes' rounds, the left factor. -/
abbrev EH : Emb UH (MM F) := embL

/-- The tile at grid coordinates `i` of device `d`. -/
abbrev tile (d : Dev nD) (i : grid0.Coords) : Thread nD τ := V d ((i 0).castLE hcore0) ((i 1).castLE hsub0)

end Cert.KernelIdeal.Hand

end
-- ==== Proof.Query.lean ====
/- One query of the kernel: the search over the cumulative table finds the place of its sample position, and the
   column it stores holds the interpolated depths; sixteen queries in a row are one trip of the query loop. Stated for
   the tile's memory references whatever they are, given what they read. -/
module

public import proofs.«01_k».proof.Proof.Setup

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (d : Dev nD) (i : grid0.Coords)

/-- The memory reference `m` of the tile held whole at the contents `f`. -/
abbrev Holds {s : Shape} {e : EltTy} (m : Memref sig .scVector .vmem s e) (q : PosShare TreeShare)
    (f : Buf (Elt F) ((m.access (.whole s)).loc (tile d i))) : sProp (MM F) :=
  (m.access (.whole s)).loc (tile d i) ↦{q} f

/-- What the tile's memory reference `m` reads of the contents `f`. -/
abbrev reads {s : Shape} {e : EltTy} (m : Memref sig .scVector .vmem s e)
    (f : Buf (Elt F) ((m.access (.whole s)).loc (tile d i))) : Vec F s e :=
  (m.access (.whole s)).read (Elt F) f

/-- The table `f` holds `T`'s entries, the first 127 rows of it. -/
def Tabled (tab : Memref sig .scVector .vmem S128x16 .f32) (f : Buf (Elt F) ((tab.access (.whole S128x16)).loc (tile d i)))
    (T : Nat → Vec F S16 .f32) (n : Nat) : Prop :=
  ∀ (j : Fin 128) (x : Fin 16), j.val < n → reads d i tab f (ix2 j x) = T j.val (ix1 x)

variable {α : Type} {Q : α → sProp (MM F)}
  {dep : Memref sig .scVector .vmem S16x128 .f32} {tab : Memref sig .scVector .vmem S128x16 .f32}
  {out : Memref sig .scVector .vmem S16x64 .f32} {pos : Memref sig .scVector .vmem S64 .f32}
  {lane : IVec S16 32} {q : PosShare TreeShare}

/-- The tile's weakest precondition. -/
abbrev wpT (p : Tile (F := F) i α) (Q : α → sProp (MM F)) : sProp (MM F) :=
  wp frame (wpE (defs₀ (F := F)) 𝒱₀ (tile d i) none) Set.univ p Q

omit [FloatOps F] in
/-- A row of words below 128 beside the lanes names entries of the table. -/
theorem chk_table (hl : ∀ x, (lane x).toNat = (x 0).val) {r : IVec S16 32} (hr : ∀ x, (r x).toNat < 128) :
    ∀ a x, ((![r, lane] : Fin 2 → IVec S16 32) a x).toNat < S128x16.size a := by
  intro a x
  match a with
  | 0 => exact hr x
  | 1 => exact (hl x).trans_lt (x 0).isLt

omit [FloatOps F] in
/-- The lanes beside a row of words below `n` name entries of a block of `n` columns. -/
theorem chk_block {n : Nat} (hl : ∀ x, (lane x).toNat = (x 0).val) {r : IVec S16 32} (hr : ∀ x, (r x).toNat < n) :
    ∀ a x, ((![lane, r] : Fin 2 → IVec S16 32) a x).toNat < (⟨2, ![16, n]⟩ : Shape).size a := by
  intro a x
  match a with
  | 0 => exact (hl x).trans_lt (x 0).isLt
  | 1 => exact hr x

/-- A gather out of the table, row `r x` in lane `x`. -/
theorem table_at {f : Buf (Elt F) ((tab.access (.whole S128x16)).loc (tile d i))} {T : Nat → Vec F S16 .f32}
    (hT : Tabled d i tab f T 127) (hl : ∀ x, (lane x).toNat = (x 0).val) {r : IVec S16 32} {p : S16.Idx → Nat}
    (hr : ∀ x, (r x).toNat = p x) (hp : ∀ x, p x < 127)
    (h : ∀ a x, ((![r, lane] : Fin 2 → IVec S16 32) a x).toNat < S128x16.size a) :
    loadIdx (reads d i tab f) ![r, lane] h = fun x => T (p x) x := by
  funext x
  refine (loadIdx_at (n0 := 128) (n1 := 16) _ r lane h x ⟨p x, (hp x).trans (by decide)⟩ (x 0) (hr x) (hl x)).trans ?_
  rw [hT ⟨p x, _⟩ (x 0) (hp x)]
  exact congrArg (T (p x)) (ix1_eta (n0 := 16) x)

/-- A gather out of a block of rays, sample `r x` in lane `x`. -/
theorem sample_at {f : Vec F S16x128 .f32} (hl : ∀ x, (lane x).toNat = (x 0).val) {r : IVec S16 32} {p : S16.Idx → Nat}
    (hr : ∀ x, (r x).toNat = p x) (hp : ∀ x, p x < 128)
    (h : ∀ a x, ((![lane, r] : Fin 2 → IVec S16 32) a x).toNat < S16x128.size a) :
    loadIdx f ![lane, r] h = fun x => sample f (p x) x := by
  funext x
  refine (loadIdx_at (n0 := 16) (n1 := 128) _ lane r h x (x 0) ⟨p x, hp x⟩ (hl x) (hr x)).trans ?_
  unfold sample
  congr 2
  exact Fin.ext (Nat.mod_eq_of_lt (hp x)).symm

/-- One probe: the table is read and the bounds are halved. -/
theorem wp_probe (hl : ∀ x, (lane x).toNat = (x 0).val) {f : Buf (Elt F) ((tab.access (.whole S128x16)).loc (tile d i))}
    {T : Nat → Vec F S16 .f32} (hT : Tabled d i tab f T 127) {k : Nat} {a : S16.Idx → Nat} {lo hi : IVec S16 32}
    (hb : Bounds (k + 1) a lo hi) (u : Vec F S16 .f32) (Kk : IVec S16 32 → IVec S16 32 → Tile (F := F) i α) :
    Holds d i tab q f ⊢ iprop((Holds d i tab q f -∗ wpT d i (Kk (lower u (fun x => T (a x + 2 ^ k - 1) x) lo hi)
        (upper u (fun x => T (a x + 2 ^ k - 1) x) lo hi)) Q) -∗ wpT d i (probe i tab lane u lo hi Kk) Q) := by
  have hm := middle_at hb
  have hlt : ∀ x, a x + 2 ^ k - 1 < 127 := fun x => by
    have h1 := (hb x).1
    have hp : 0 < 2 ^ k := Nat.two_pow_pos k
    rw [Nat.pow_succ] at h1
    omega
  have hc : k0_chk6 lane (middle lo hi) := chk_table hl fun x => (hm x).trans_lt ((hlt x).trans (by decide))
  unfold wpT probe
  simp only [Prog.lift, Prog.bind_op, Prog.bind_ret]
  iintro H Hk
  rw [wp_assume_of _ _ _ _ hc]
  iapply (SparseCore.wp_vectorLoadIdx 𝒱₀ (tile d i) none Set.univ (base := tab) (S := Finset.univ) (q := q) (f := f) (Finset.subset_univ _)) $$ H
  iintro H
  rw [table_at d i hT hl hm hlt]
  iapply Hk; iexact H

/-- The search: from bounds `k` probes apart, the place the table's entries decide. -/
theorem wp_search (hl : ∀ x, (lane x).toNat = (x 0).val) {f : Buf (Elt F) ((tab.access (.whole S128x16)).loc (tile d i))}
    {T : Nat → Vec F S16 .f32} (hT : Tabled d i tab f T 127) (u : Vec F S16 .f32) (Kk : IVec S16 32 → Tile (F := F) i α) :
    ∀ (k : Nat) (a : S16.Idx → Nat) (lo hi : IVec S16 32), Bounds k a lo hi →
      (Holds d i tab q f ⊢ iprop((∀ lo', ⌜∀ x, (lo' x).toNat = seek (fun j => (FloatOps.cmpf (φ := .f32) .olt (T j x) (u x)).getLsbD 0) k (a x) ∧ (lo' x).toNat < 128⌝ -∗ Holds d i tab q f -∗ wpT d i (Kk lo') Q)
        -∗ wpT d i (search i tab lane u k lo hi Kk) Q))
  | 0, a, lo, hi, hb => by
      unfold search
      iintro H Hk
      iapply Hk $$ %lo [] H
      ipureintro
      intro x
      obtain ⟨h1, h2, -⟩ := hb x
      exact ⟨h2, by rw [h2]; omega⟩
  | k + 1, a, lo, hi, hb => by
      unfold search
      iintro H Hk
      iapply (wp_probe d i hl hT hb u _) $$ H
      iintro H
      iapply (wp_search hl hT u Kk k _ _ _ (bounds_step hb u _)) $$ H
      iintro %lo' %h H
      iapply Hk $$ %lo' [] H
      ipureintro
      intro x
      exact ⟨(h x).1, (h x).2⟩

/-- The end of a query whose search found `p`: its column holds the interpolated depths, the others are kept. -/
theorem wp_finish (hl : ∀ x, (lane x).toNat = (x 0).val) {ft : Buf (Elt F) ((tab.access (.whole S128x16)).loc (tile d i))}
    {fd : Buf (Elt F) ((dep.access (.whole S16x128)).loc (tile d i))} {fo : Buf (Elt F) ((out.access (.whole S16x64)).loc (tile d i))}
    {T : Nat → Vec F S16 .f32} (hT : Tabled d i tab ft T 127) {col : IVec S16 32} (hcol : k0_chk5 lane col) {c : Nat}
    (hc : ∀ x, (col x).toNat = c) (u : Vec F S16 .f32) {lo : IVec S16 32} {p : S16.Idx → Nat} (hp : ∀ x, (lo x).toNat = p x)
    (hlt : ∀ x, p x < 128) (k : Tile (F := F) i α) :
    Holds d i tab q ft ⊢ iprop(Holds d i dep q fd -∗ ((out.access (.whole S16x64)).loc (tile d i) ↦[(out.access (.whole S16x64)).set]{fullShare} fo)
      -∗ (∀ fo', ⌜∀ y : S16x64.Idx, reads d i out fo' y = if (y 1).val = c then
              k0_pay5 u (fun x => T (p x - 1) x) (fun x => T (min (p x) 126) x) (fun x => sample (reads d i dep fd) (p x - 1) x)
                (fun x => sample (reads d i dep fd) (min (p x) 126) x) (ix1 (n0 := 16) (y 0)) else reads d i out fo y⌝
            -∗ Holds d i tab q ft -∗ Holds d i dep q fd
            -∗ ((out.access (.whole S16x64)).loc (tile d i) ↦[(out.access (.whole S16x64)).set]{fullShare} fo') -∗ wpT d i k Q)
      -∗ wpT d i (finish i dep tab out lane col hcol u lo k) Q) := by
  have hlo : ∀ x, (maxsi (subi lo (broadcast S16 1#32)) (broadcast S16 0#32) x).toNat = p x - 1 := fun x => by
    show (IntOp.maxsi (lo x - 1#32) 0#32).toNat = _
    have h1 := hp x
    have h2 := hlt x
    unfold IntOp.maxsi
    rw [BitVec.slt_eq_decide]
    by_cases h : p x = 0
    · have e : lo x = 0#32 := BitVec.eq_of_toNat_eq (by simp [h1, h])
      rw [e, h]; decide
    · have hn : (lo x - 1#32).toNat = p x - 1 := by
        rw [BitVec.toNat_sub, h1]; simp; omega
      have hi : (lo x - 1#32).toInt = (p x : Int) - 1 := by
        rw [BitVec.toInt_eq_toNat_of_lt (by omega), hn]; omega
      rw [hi]
      by_cases h' : p x = 1
      · rw [h']; rfl
      · rw [if_pos (by simp; omega), hn]
  have hhi : ∀ x, (minsi lo (broadcast S16 126#32) x).toNat = min (p x) 126 := fun x => by
    show (IntOp.minsi (lo x) 126#32).toNat = _
    have h1 := hp x
    have h2 := hlt x
    unfold IntOp.minsi
    have : (lo x).toInt = (p x : Int) := by
      rw [BitVec.toInt_eq_toNat_of_lt (by omega), h1]
    rw [BitVec.slt_eq_decide, this]
    by_cases h : (p x : Int) < (126#32).toInt
    · rw [if_pos (by simpa using h), h1]
      have : (126#32).toInt = 126 := by decide
      omega
    · rw [if_neg (by simpa using h)]
      have : (126#32).toInt = 126 := by decide
      simp; omega
  have hl1 : ∀ x, p x - 1 < 127 := fun x => by have := hlt x; omega
  have hh1 : ∀ x, min (p x) 126 < 127 := fun x => by omega
  have hb : k0_chk13 lane (maxsi (subi lo (broadcast S16 1#32)) (broadcast S16 0#32)) :=
    ⟨chk_table hl fun x => by rw [hlo]; exact (hl1 x).trans (by decide), chk_block hl fun x => by rw [hlo]; exact (hl1 x).trans (by decide)⟩
  have ha : k0_chk14 lane (minsi lo (broadcast S16 126#32)) :=
    ⟨chk_table hl fun x => by rw [hhi]; exact (hh1 x).trans (by decide), chk_block hl fun x => by rw [hhi]; exact (hh1 x).trans (by decide)⟩
  unfold wpT finish
  simp only [Prog.lift, Prog.bind_op, Prog.bind_ret]
  iintro Ht Hd Ho Hk
  rw [wp_assume_of _ _ _ _ hb, wp_assume_of _ _ _ _ ha]
  iapply (SparseCore.wp_vectorLoadIdx 𝒱₀ (tile d i) none Set.univ (base := tab) (S := Finset.univ) (q := q) (f := ft) (Finset.subset_univ _)) $$ Ht
  iintro Ht
  iapply (SparseCore.wp_vectorLoadIdx 𝒱₀ (tile d i) none Set.univ (base := tab) (S := Finset.univ) (q := q) (f := ft) (Finset.subset_univ _)) $$ Ht
  iintro Ht
  iapply (SparseCore.wp_vectorLoadIdx 𝒱₀ (tile d i) none Set.univ (base := dep) (S := Finset.univ) (q := q) (f := fd) (Finset.subset_univ _)) $$ Hd
  iintro Hd
  iapply (SparseCore.wp_vectorLoadIdx 𝒱₀ (tile d i) none Set.univ (base := dep) (S := Finset.univ) (q := q) (f := fd) (Finset.subset_univ _)) $$ Hd
  iintro Hd
  rw [table_at d i hT hl hlo hl1, table_at d i hT hl hhi hh1, sample_at hl hlo fun x => (hl1 x).trans (by decide),
    sample_at hl hhi fun x => (hh1 x).trans (by decide)]
  iapply (SparseCore.wp_vectorStoreIdx 𝒱₀ (tile d i) none Set.univ (base := out) (f := fo)) $$ Ho
  iintro Ho
  iapply Hk $$ %_ [] Ht Hd Ho
  ipureintro
  intro y
  unfold reads
  rw [View.read_write_univ]
  exact storeIdx_column (n := 64) _ lane col _ _ c hl hc y

/-- What a tile holds of its scratches during its queries. -/
abbrev Scratch (dep : Memref sig .scVector .vmem S16x128 .f32) (tab : Memref sig .scVector .vmem S128x16 .f32)
    (out : Memref sig .scVector .vmem S16x64 .f32) (pos : Memref sig .scVector .vmem S64 .f32) (q : PosShare TreeShare)
    (ft : Buf (Elt F) ((tab.access (.whole S128x16)).loc (tile d i))) (fd : Buf (Elt F) ((dep.access (.whole S16x128)).loc (tile d i)))
    (fp : Buf (Elt F) ((pos.access (.whole S64)).loc (tile d i))) (fo : Buf (Elt F) ((out.access (.whole S16x64)).loc (tile d i))) : sProp (MM F) :=
  iprop(Holds d i tab q ft ∗ Holds d i dep q fd ∗ Holds d i pos q fp
    ∗ ((out.access (.whole S16x64)).loc (tile d i) ↦[(out.access (.whole S16x64)).set]{fullShare} fo))

/-- One query: its column of the results is computed. -/
theorem wp_query (hl : ∀ x, (lane x).toNat = (x 0).val) {ft : Buf (Elt F) ((tab.access (.whole S128x16)).loc (tile d i))}
    {fd : Buf (Elt F) ((dep.access (.whole S16x128)).loc (tile d i))} {fp : Buf (Elt F) ((pos.access (.whole S64)).loc (tile d i))}
    {fo : Buf (Elt F) ((out.access (.whole S16x64)).loc (tile d i))} {Sd : Vec F S16x128 .f32}
    (hT : Tabled d i tab ft (entry (reads d i dep fd) Sd) 127) {g : BitVec 32} {j c : Nat}
    (hc : (Scalar.addi (Scalar.muli g 16#32) (BitVec.ofNat 32 j)).toNat = c) (hc64 : c < 64) (k : Tile (F := F) i α) :
    Scratch d i dep tab out pos q ft fd fp fo ⊢ iprop(
      (∀ fo', ⌜∀ y : S16x64.Idx, reads d i out fo' y = if (y 1).val = c then
              blockOut (reads d i dep fd) Sd (reads d i pos fp) y else reads d i out fo y⌝
            -∗ Scratch d i dep tab out pos q ft fd fp fo' -∗ wpT d i k Q)
      -∗ wpT d i (query i dep tab out pos lane g j k) Q) := by
  have hcol : k0_chk5 lane (broadcast S16 (Scalar.addi (Scalar.muli g 16#32) (BitVec.ofNat 32 j))) :=
    ⟨fun a x => by match a with | 0 => exact hc.trans_lt hc64, chk_block hl fun _ => hc.trans_lt hc64⟩
  have hu : ∀ h, loadIdx (reads d i pos fp) ![broadcast S16 (Scalar.addi (Scalar.muli g 16#32) (BitVec.ofNat 32 j))] h
      = (broadcast S16 (position (reads d i pos fp) c) : Vec F S16 .f32) := fun h => by
    funext x
    refine (loadIdx_line (n0 := 64) _ _ h x ⟨c, hc64⟩ hc).trans ?_
    unfold position broadcast
    congr 2
    exact Fin.ext (Nat.mod_eq_of_lt hc64).symm
  have hb : Bounds 7 (fun _ => 0) (broadcast S16 0#32) (broadcast S16 127#32) := fun x => ⟨Nat.le_refl 128, rfl, rfl⟩
  unfold wpT query Scratch
  simp only [Prog.lift, Prog.bind_op, Prog.bind_ret]
  iintro ⟨Ht, Hd, Hp, Ho⟩ Hk
  rw [wp_assume_of _ _ _ _ hcol]
  iapply (SparseCore.wp_vectorLoadIdx 𝒱₀ (tile d i) none Set.univ (base := pos) (S := Finset.univ) (q := q) (f := fp) (Finset.subset_univ _)) $$ Hp
  iintro Hp
  rw [hu]
  iapply (wp_search d i hl hT _ _ 7 _ _ _ hb) $$ Ht
  iintro %lo %hlo Ht
  iapply (wp_finish d i hl hT hcol (fun _ => hc) _ (p := place (reads d i dep fd) Sd (position (reads d i pos fp) c))
    (fun x => (hlo x).1) (fun x => (hlo x).1.symm.trans_lt (hlo x).2) k) $$ Ht Hd Ho
  iintro %fo' %hfo Ht Hd Ho
  iapply Hk $$ %fo' [] [Ht Hd Hp Ho]
  · ipureintro
    intro y
    rw [hfo y]
    by_cases h : (y 1).val = c
    · rw [if_pos h, if_pos h]
      unfold blockOut depthAt
      rw [h]
    · rw [if_neg h, if_neg h]
  isplitl [Ht]; · iexact Ht
  isplitl [Hd]; · iexact Hd
  isplitl [Hp]; · iexact Hp
  iexact Ho

/-- The queries of the columns from `16 t + s` on, `n` of them. -/
theorem wp_queries (hl : ∀ x, (lane x).toNat = (x 0).val) {ft : Buf (Elt F) ((tab.access (.whole S128x16)).loc (tile d i))}
    {fd : Buf (Elt F) ((dep.access (.whole S16x128)).loc (tile d i))} {fp : Buf (Elt F) ((pos.access (.whole S64)).loc (tile d i))}
    {Sd : Vec F S16x128 .f32} (hT : Tabled d i tab ft (entry (reads d i dep fd) Sd) 127) {g : BitVec 32} {t : Nat} (hg : g.toNat = t) (ht : t < 4)
    {Q : BitVec 32 → sProp (MM F)} :
    ∀ (n s : Nat) (fo : Buf (Elt F) ((out.access (.whole S16x64)).loc (tile d i))), s + n ≤ 16 →
    (Scratch d i dep tab out pos q ft fd fp fo ⊢ iprop(
      (∀ fo', ⌜∀ y : S16x64.Idx, reads d i out fo' y = if 16 * t + s ≤ (y 1).val ∧ (y 1).val < 16 * t + s + n then
              blockOut (reads d i dep fd) Sd (reads d i pos fp) y else reads d i out fo y⌝
            -∗ Scratch d i dep tab out pos q ft fd fp fo' -∗ Q 0#32)
      -∗ wpT d i (queries i dep tab out pos lane g s n) Q))
  | 0, s, fo, _ => by
      unfold wpT queries
      rw [List.range'_zero, List.foldr_nil, Prog.pure_eq_ret, wp_ret]
      iintro H Hk
      imodintro
      iapply Hk $$ %fo [] H
      ipureintro
      intro y
      rw [if_neg (by omega)]
  | n + 1, s, fo, hs => by
      have hc : (Scalar.addi (Scalar.muli g 16#32) (BitVec.ofNat 32 s)).toNat = 16 * t + s := by
        show (g * 16#32 + BitVec.ofNat 32 s).toNat = _
        simp [BitVec.toNat_add, BitVec.toNat_mul, hg]
        omega
      have e : queries (F := F) i dep tab out pos lane g s (n + 1) = query i dep tab out pos lane g s (queries i dep tab out pos lane g (s + 1) n) := rfl
      rw [e]
      iintro H Hk
      iapply (wp_query d i hl hT hc (by omega) _) $$ H
      iintro %f1 %h1 H
      iapply (wp_queries hl hT hg ht n (s + 1) f1 (by omega)) $$ H
      iintro %f2 %h2 H
      iapply Hk $$ %f2 [] H
      ipureintro
      intro y
      rw [h2 y, h1 y]
      by_cases h : (y 1).val = 16 * t + s
      · rw [if_neg (by omega), if_pos h, if_pos (by omega)]
      · rw [if_neg h]
        by_cases h' : 16 * t + (s + 1) ≤ (y 1).val ∧ (y 1).val < 16 * t + (s + 1) + n
        · rw [if_pos h', if_pos (by omega)]
        · rw [if_neg h', if_neg (by omega)]

end Cert.KernelIdeal.Hand

end
-- ==== Proof.Table.lean ====
/- The cumulative table of one block of rays: one trip of its loop stores an entry and adds the next interval to the
   running sum, the whole loop leaves the table of the block. And the query loop: its four trips leave the block of
   results. -/
module

public import proofs.«01_k».proof.Proof.Query

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (d : Dev nD) (i : grid0.Coords)

/-- A counted loop of the tile at the head of a program, by an invariant. -/
theorem wp_trips {σ β : Type} (l : Scf.Loop 32) (ok : l.OK) (init : σ) (body : Fin l.trips → σ → Tile (F := F) i σ) (I : Nat → σ → sProp (MM F))
    (h : ∀ k acc, I k.val acc ⊢ wpT d i (body k acc) (I (k.val + 1))) {kk : σ → Tile (F := F) i β} {Q : β → sProp (MM F)} :
    I 0 init ⊢ iprop((∀ acc, I l.trips acc -∗ wpT d i (kk acc) Q) -∗ wpT d i (Scf.Loop.for l ok init body >>= kk) Q) :=
  Scf.wp_for_bind frame (wpE (defs₀ (F := F)) 𝒱₀ (tile d i) none) Set.univ l.lb l.ub l.st ok init body I h

/-! ## The kernel's memory references -/

abbrev dM : Memref sig .scVector .hbm S65536x128 .f32 := Memref.whole main_arg0_scv
abbrev sM : Memref sig .scVector .hbm S65536x128 .f32 := Memref.whole main_arg1_scv
abbrev uM : Memref sig .scVector .hbm S64 .f32 := Memref.whole main_v0_scv
abbrev oM : Memref sig .scVector .hbm S65536x64 .f32 := Memref.whole main_v1_scv
abbrev dB : Memref sig .scVector .vmem S16x128 .f32 := Memref.whole cc0_scratch0
abbrev sB : Memref sig .scVector .vmem S16x128 .f32 := Memref.whole cc0_scratch1
abbrev tB : Memref sig .scVector .vmem S128x16 .f32 := Memref.whole cc0_scratch2
abbrev oB : Memref sig .scVector .vmem S16x64 .f32 := Memref.whole cc0_scratch3
abbrev uB : Memref sig .scVector .vmem S64 .f32 := Memref.whole cc0_scratch4

/-- One trip of the table loop. -/
abbrev tableTrip (lane : IVec S16 32) := k0_t2_body (F := F) i dM (Memref.isWhole_whole _) sM (Memref.isWhole_whole _) uM (Memref.isWhole_whole _)
  oM (Memref.isWhole_whole _) dB (Memref.isWhole_whole _) sB (Memref.isWhole_whole _) tB (Memref.isWhole_whole _) oB (Memref.isWhole_whole _)
  uB (Memref.isWhole_whole _) cc0_scoped0 cc0_scoped1 cc0_scoped2 cc0_scoped3 lane

/-- One trip of the query loop. -/
abbrev queryTrip (lane : IVec S16 32) := k0_t3_body (F := F) i dM (Memref.isWhole_whole _) sM (Memref.isWhole_whole _) uM (Memref.isWhole_whole _)
  oM (Memref.isWhole_whole _) dB (Memref.isWhole_whole _) sB (Memref.isWhole_whole _) tB (Memref.isWhole_whole _) oB (Memref.isWhole_whole _)
  uB (Memref.isWhole_whole _) cc0_scoped0 cc0_scoped1 cc0_scoped2 cc0_scoped3 lane

omit [FloatOps F] in
theorem reads_dB (f : Vec F S16x128 .f32) : (dB.access (.whole S16x128)).read (Elt F) f = f := Memref.read_access_whole (Val := Elt F) cc0_scratch0 f
omit [FloatOps F] in
theorem reads_sB (f : Vec F S16x128 .f32) : (sB.access (.whole S16x128)).read (Elt F) f = f := Memref.read_access_whole (Val := Elt F) cc0_scratch1 f
omit [FloatOps F] in
theorem reads_uB (f : Vec F S64 .f32) : (uB.access (.whole S64)).read (Elt F) f = f := Memref.read_access_whole (Val := Elt F) cc0_scratch4 f

/-! ## The table loop -/

variable {lane : IVec S16 32}

/-- What a tile holds before trip `k` of the table loop, over the block `fd` of depths and `fs` of distances: both
    blocks, the table with its first `k` entries, the running sum and the current sample carried. -/
def tableInv (fd : Vec F S16x128 .f32) (fs : Vec F S16x128 .f32) (k : Nat) (acc : FVec F S16 .f32 × Vec F S16 .f32) : sProp (MM F) :=
  iprop(⌜acc = (total fd fs k, sample fd k)⌝
    ∗ (∃ ft, ⌜Tabled d i tB ft (entry fd fs) k⌝ ∗ ((tB.access (.whole S128x16)).loc (tile d i) ↦[(tB.access (.whole S128x16)).set]{fullShare} ft))
    ∗ Holds d i dB fullShare fd ∗ Holds d i sB fullShare fs)

/-- One trip of the table loop. -/
theorem wp_tableTrip (hl : ∀ x, (lane x).toNat = (x 0).val) (fd fs : Vec F S16x128 .f32) (k : Fin k0_t2_loop.trips)
    (acc : FVec F S16 .f32 × Vec F S16 .f32) :
    tableInv d i fd fs k.val acc ⊢ wpT d i (tableTrip i lane k acc) (tableInv d i fd fs (k.val + 1)) := by
  have hk : k.val < 127 := k.isLt
  have hv : (Scf.iv 0#32 1#32 k.val).toNat = k.val := by
    simp [Scf.iv]; omega
  have hv1 : (Scalar.addi (Scf.iv 0#32 1#32 k.val) 1#32).toNat = k.val + 1 := by
    show (Scf.iv 0#32 1#32 k.val + 1#32).toNat = _
    rw [BitVec.toNat_add, hv]; simp; omega
  obtain ⟨run, cur⟩ := acc
  unfold wpT tableTrip k0_t2_body
  have h2 : k0_chk2 lane (broadcast S16 (Scf.iv 0#32 1#32 k.val)) := chk_table hl fun _ => hv.trans_lt (by omega)
  have h3 : k0_chk3 lane (broadcast S16 (Scalar.addi (Scf.iv 0#32 1#32 k.val) 1#32)) := chk_block hl fun _ => hv1.trans_lt (by omega)
  have h4 : k0_chk4 lane (broadcast S16 (Scf.iv 0#32 1#32 k.val)) := chk_block hl fun _ => hv.trans_lt (by omega)
  simp only [Prog.lift, Prog.bind_op, Prog.bind_ret]
  unfold tableInv
  iintro ⟨%hacc, ⟨%ft, %hft, Ht⟩, Hd, Hs⟩
  obtain ⟨rfl, rfl⟩ := Prod.mk.inj hacc
  rw [wp_assume_of _ _ _ _ h2]
  iapply (SparseCore.wp_vectorStoreIdx 𝒱₀ (tile d i) none Set.univ (base := tB) (f := ft)) $$ Ht
  iintro Ht
  rw [wp_assume_of _ _ _ _ h3]
  iapply (SparseCore.wp_vectorLoadIdx 𝒱₀ (tile d i) none Set.univ (base := dB) (S := Finset.univ) (q := fullShare) (f := fd) (Finset.subset_univ _)) $$ Hd
  iintro Hd
  rw [wp_assume_of _ _ _ _ h4]
  iapply (SparseCore.wp_vectorLoadIdx 𝒱₀ (tile d i) none Set.univ (base := sB) (S := Finset.univ) (q := fullShare) (f := fs) (Finset.subset_univ _)) $$ Hs
  iintro Hs
  rw [Prog.pure_eq_ret, wp_ret]
  imodintro
  isplitr
  · ipureintro
    have e1 := sample_at (f := fd) (r := broadcast S16 (Scalar.addi (Scf.iv 0#32 1#32 k.val) 1#32)) (p := fun _ => k.val + 1) hl (fun _ => hv1) (fun _ => by omega) (k0_idx3_inb _ _ h3)
    have e2 := sample_at (f := fs) (r := broadcast S16 (Scf.iv 0#32 1#32 k.val)) (p := fun _ => k.val) hl (fun _ => hv) (fun _ => by omega) (k0_idx4_inb _ _ h4)
    rw [reads_dB fd, reads_sB fs, e1, e2]
    rfl
  isplitl [Ht]
  · iexists _; isplitr
    rotate_left
    · iexact Ht
    ipureintro
    intro j x hj
    unfold reads
    rw [View.read_write_univ]
    refine (storeIdx_row (n := 128) _ _ lane _ _ k.val (fun _ => hv) hl (ix2 j x)).trans ?_
    by_cases h : j.val = k.val
    · exact (if_pos h).trans (by rw [h]; rfl)
    · exact (if_neg h).trans (hft j x (by omega))
  isplitl [Hd]; · iexact Hd
  iexact Hs

/-- The table loop leaves the block's table. -/
theorem wp_table (hl : ∀ x, (lane x).toNat = (x 0).val) (fd fs : Vec F S16x128 .f32)
    (ft : Buf (Elt F) ((tB.access (.whole S128x16)).loc (tile d i))) {β : Type}
    {kk : FVec F S16 .f32 × Vec F S16 .f32 → Tile (F := F) i β} {Q : β → sProp (MM F)} :
    iprop(((tB.access (.whole S128x16)).loc (tile d i) ↦[(tB.access (.whole S128x16)).set]{fullShare} ft) ∗ Holds d i dB fullShare fd ∗ Holds d i sB fullShare fs)
      ⊢ iprop((∀ acc ft', ⌜Tabled d i tB ft' (entry fd fs) 127⌝ -∗ ((tB.access (.whole S128x16)).loc (tile d i) ↦[(tB.access (.whole S128x16)).set]{fullShare} ft')
          -∗ Holds d i dB fullShare fd -∗ Holds d i sB fullShare fs -∗ wpT d i (kk acc) Q)
        -∗ wpT d i (Scf.Loop.for k0_t2_loop k0_t2_ok (k0_pay1 (F := F), sample fd 0) (tableTrip i lane) >>= kk) Q) := by
  iintro ⟨Ht, Hd, Hs⟩ Hk
  iapply (wp_trips d i k0_t2_loop k0_t2_ok _ (tableTrip i lane) (tableInv d i fd fs) (wp_tableTrip d i hl fd fs)) $$ [Ht Hd Hs]
  · unfold tableInv
    isplitr
    · ipureintro; rfl
    isplitl [Ht]
    · iexists _; isplitr
      rotate_left
      · iexact Ht
      ipureintro
      exact fun j x hj => absurd hj (Nat.not_lt_zero _)
    isplitl [Hd]; · iexact Hd
    iexact Hs
  unfold tableInv
  iintro %acc ⟨-, ⟨%ft', %hft, Ht⟩, Hd, Hs⟩
  iapply Hk $$ %acc %ft' [] Ht Hd Hs
  ipureintro
  exact hft

/-! ## The query loop -/

/-- What a tile holds before trip `k` of the query loop: the scratches, the columns below `16 k` of the results done. -/
def queryInv (ft : Buf (Elt F) ((tB.access (.whole S128x16)).loc (tile d i))) (fd fs : Vec F S16x128 .f32) (fu : Vec F S64 .f32) (k : Nat) (_ : BitVec 32) : sProp (MM F) :=
  iprop(∃ fo, ⌜∀ y : S16x64.Idx, (y 1).val < 16 * k → reads d i oB fo y = blockOut fd fs fu y⌝ ∗ Scratch d i dB tB oB uB fullShare ft fd fu fo)

/-- One trip of the query loop. -/
theorem wp_queryTrip (hl : ∀ x, (lane x).toNat = (x 0).val) {fd fs : Vec F S16x128 .f32} {fu : Vec F S64 .f32}
    {ft : Buf (Elt F) ((tB.access (.whole S128x16)).loc (tile d i))} (hT : Tabled d i tB ft (entry fd fs) 127)
    (k : Fin k0_t3_loop.trips) (w : BitVec 32) :
    queryInv d i ft fd fs fu k.val w ⊢ wpT d i (queryTrip i lane k w) (queryInv d i ft fd fs fu (k.val + 1)) := by
  have hT' : Tabled d i tB ft (entry (reads d i dB fd) fs) 127 := by unfold reads; rwa [reads_dB]
  have hk : k.val < 4 := k.isLt
  have hv : (Scf.iv 0#32 1#32 k.val).toNat = k.val := by
    simp [Scf.iv]; omega
  rw [show queryTrip (F := F) i lane k w = queries i dB tB oB uB lane (Scf.iv 0#32 1#32 k.val) 0 16 from trip_eq ..]
  unfold queryInv
  iintro ⟨%fo, %hfo, H⟩
  iapply (wp_queries d i hl (Sd := fs) hT' hv hk 16 0 fo (Nat.le_refl 16)) $$ H
  iintro %fo' %hfo' H
  iexists fo'; isplitr
  · ipureintro
    intro y hy
    rw [hfo' y]
    unfold reads
    rw [reads_dB, reads_uB]
    by_cases h : 16 * k.val + 0 ≤ (y 1).val ∧ (y 1).val < 16 * k.val + 0 + 16
    · exact if_pos h
    · exact (if_neg h).trans (hfo y (by omega))
  iexact H

/-- The query loop leaves the block of results. -/
theorem wp_allQueries (hl : ∀ x, (lane x).toNat = (x 0).val) {fd fs : Vec F S16x128 .f32} {fu : Vec F S64 .f32}
    {ft : Buf (Elt F) ((tB.access (.whole S128x16)).loc (tile d i))} (hT : Tabled d i tB ft (entry fd fs) 127)
    (fo : Buf (Elt F) ((oB.access (.whole S16x64)).loc (tile d i))) {β : Type}
    {kk : BitVec 32 → Tile (F := F) i β} {Q : β → sProp (MM F)} :
    Scratch d i dB tB oB uB fullShare ft fd fu fo
      ⊢ iprop((∀ w fo', ⌜∀ y : S16x64.Idx, reads d i oB fo' y = blockOut fd fs fu y⌝ -∗ Scratch d i dB tB oB uB fullShare ft fd fu fo' -∗ wpT d i (kk w) Q)
        -∗ wpT d i (Scf.Loop.for k0_t3_loop k0_t3_ok 0#32 (queryTrip i lane) >>= kk) Q) := by
  iintro H Hk
  iapply (wp_trips d i k0_t3_loop k0_t3_ok 0#32 (queryTrip i lane) (queryInv d i ft fd fs fu) (wp_queryTrip d i hl hT)) $$ [H]
  · unfold queryInv
    iexists fo; isplitr
    · ipureintro; exact fun y hy => absurd hy (Nat.not_lt_zero _)
    iexact H
  unfold queryInv
  iintro %w ⟨%fo', %hfo', H⟩
  iapply Hk $$ %w %fo' [] H
  ipureintro
  exact fun y => hfo' y (y 1).isLt

end Cert.KernelIdeal.Hand

end
-- ==== Proof.Block.lean ====
/- One block of sixteen rays: its rows of depths and distances are fetched, the table is built, the sixty-four
   positions are searched, and the block of results is written out. -/
module

public import proofs.«01_k».proof.Proof.Table

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid0.Coords)

/-- The lanes' own numbers, and zeros. -/
abbrev lanes : IVec S16 32 := iota .scVector S16 32 [0] iota_S16_d0_w32_scVector
abbrev zeros : IVec S16 32 := broadcast S16 0#32

omit [FloatOps F] in
theorem lanes_at (x : S16.Idx) : (lanes x).toNat = (x 0).val := by
  have h : (x 0).val < 16 := (x 0).isLt
  show (BitVec.ofNat 32 (0 * 16 + (x 0).val)).toNat = _
  rw [BitVec.toNat_ofNat]
  omega

theorem chk_first : k0_chk1 lanes zeros := chk_block lanes_at fun _ => by show (0#32).toNat < 128; decide

/-- One trip of the block loop. -/
abbrev blockTrip := k0_t1_body (F := F) i dM (Memref.isWhole_whole _) sM (Memref.isWhole_whole _) uM (Memref.isWhole_whole _)
  oM (Memref.isWhole_whole _) dB (Memref.isWhole_whole _) sB (Memref.isWhole_whole _) tB (Memref.isWhole_whole _) oB (Memref.isWhole_whole _)
  uB (Memref.isWhole_whole _) cc0_scoped0 cc0_scoped1 cc0_scoped2 cc0_scoped3 lanes zeros chk_first

/-- Block `b`'s rows of an input, and of the result. -/
abbrev dS (b : Fin k0_t1_loop.trips) : Memref sig .scVector .hbm S16x128 .f32 :=
  dM.slice (Rect.unit (s := S65536x128) (k0_off1 i b) S16x128.size (k0_off1_inb i b)) (fun _ => rfl)
abbrev sS (b : Fin k0_t1_loop.trips) : Memref sig .scVector .hbm S16x128 .f32 :=
  sM.slice (Rect.unit (s := S65536x128) (k0_off1 i b) S16x128.size (k0_off1_inb i b)) (fun _ => rfl)
abbrev oS (b : Fin k0_t1_loop.trips) : Memref sig .scVector .hbm S16x64 .f32 :=
  oM.slice (Rect.unit (s := S65536x64) (k0_off2 i b) S16x64.size (k0_off2_inb i b)) (fun _ => rfl)

/-- What the tile keeps through its blocks, whatever their values. -/
def keep (q : PosShare TreeShare) (Dm Sm : Vec F S65536x128 .f32) (U : Vec F S64 .f32) : sProp (MM F) :=
  iprop((dM.view.loc (tile d i) ↦{q} Dm) ∗ (sM.view.loc (tile d i) ↦{q} Sm)
    ∗ (∃ f, dB.view.loc (tile d i) ↦{fullShare} f) ∗ (∃ f, sB.view.loc (tile d i) ↦{fullShare} f)
    ∗ (∃ f, tB.view.loc (tile d i) ↦{fullShare} f) ∗ (∃ f, oB.view.loc (tile d i) ↦{fullShare} f)
    ∗ (uB.view.loc (tile d i) ↦{fullShare} U)
    ∗ semVal (tile d i, SemLoc.dma cc0_scoped1.sem) 0 ∗ semVal (tile d i, SemLoc.dma cc0_scoped2.sem) 0 ∗ semVal (tile d i, SemLoc.dma cc0_scoped3.sem) 0)

/-- What the tile may wait for, and what it owes. -/
def owing (O : CellTallies nD τ sig (HIx 1)) (W : Waits sig (HIx 1)) : sProp (MM F) :=
  iprop(Transfers.MayWaits (tile d i) (none : HIx 1) O ∗ ∃ W', ⌜∀ p ∈ W', p ∈ W ∨ p.2 = none⌝ ∗ owes (tile d i) O W')

omit [FloatOps F] in
/-- A scratch a copy has landed in whole holds what was copied. -/
theorem landed_d (g f : Vec F S16x128 .f32) :
    (dB.view.loc (tile d i) ↦{fullShare} dB.view.write (Elt F) g f Finset.univ : sProp (MM F)) = Holds d i dB fullShare f :=
  congrArg (fun h => (dB.view.loc (tile d i) ↦{fullShare} h : sProp (MM F))) (View.write_whole_univ cc0_scratch0 g f)
omit [FloatOps F] in
theorem landed_s (g f : Vec F S16x128 .f32) :
    (sB.view.loc (tile d i) ↦{fullShare} sB.view.write (Elt F) g f Finset.univ : sProp (MM F)) = Holds d i sB fullShare f :=
  congrArg (fun h => (sB.view.loc (tile d i) ↦{fullShare} h : sProp (MM F))) (View.write_whole_univ cc0_scratch1 g f)

omit [FloatOps F] in
/-- A scratch held at its own elements is held whole. -/
theorem own_t (f : Vec F S128x16 .f32) :
    ((tB.access (.whole S128x16)).loc (tile d i) ↦[(tB.access (.whole S128x16)).set]{fullShare} f : sProp (MM F)) = (tB.view.loc (tile d i) ↦{fullShare} f) :=
  congrArg (fun I => (tB.view.loc (tile d i) ↦[I]{fullShare} f : sProp (MM F))) (Memref.set_access_whole cc0_scratch2)
omit [FloatOps F] in
theorem own_o (f : Vec F S16x64 .f32) :
    ((oB.access (.whole S16x64)).loc (tile d i) ↦[(oB.access (.whole S16x64)).set]{fullShare} f : sProp (MM F)) = (oB.view.loc (tile d i) ↦{fullShare} f) :=
  congrArg (fun I => (oB.view.loc (tile d i) ↦[I]{fullShare} f : sProp (MM F))) (Memref.set_access_whole cc0_scratch3)

omit [FloatOps F] in
theorem reads_oB (f : Vec F S16x64 .f32) : (oB.access (.whole S16x64)).read (Elt F) f = f := Memref.read_access_whole (Val := Elt F) cc0_scratch3 f

/-- The first row of block `b` of the tile. -/
def base (b : Fin k0_t1_loop.trips) : Nat := 32768 * (i 0).val + 2048 * (i 1).val + 16 * b.val

omit [FloatOps F] in
theorem base_lt (b : Fin k0_t1_loop.trips) : base i b + 16 ≤ 65536 := by
  have h0 : (i 0).val < 2 := (i 0).isLt
  have h1 : (i 1).val < 16 := (i 1).isLt
  have hb : b.val < 128 := b.isLt
  unfold base; omega

/-- Row `y 0` of a block sits in row `base + y 0` of the result. -/
theorem emb_oS (b : Fin k0_t1_loop.trips) (y : S16x64.Idx) :
    (oS i b).view.emb y = ix2 (n0 := 65536) (n1 := 64) ⟨base i b + (y 0).val, by have := base_lt i b; have : (y 0).val < 16 := (y 0).isLt; omega⟩ (y 1) := by
  funext a
  apply Fin.ext
  have e : ((oS i b).view.emb y a).val = k0_off2 i b a + 1 * (y a).val := rfl
  rw [e, k0_off2_eq]
  match a with
  | 0 => show base i b + 1 * (y 0).val = base i b + (y 0).val; omega
  | 1 => show 0 + 1 * (y 1).val = (y 1).val; omega

/-- So of the inputs. -/
theorem emb_dS (b : Fin k0_t1_loop.trips) (y : S16x128.Idx) :
    (dS i b).view.emb y = ix2 (n0 := 65536) (n1 := 128) ⟨base i b + (y 0).val, by have := base_lt i b; have : (y 0).val < 16 := (y 0).isLt; omega⟩ (y 1) := by
  funext a
  apply Fin.ext
  have e : ((dS i b).view.emb y a).val = k0_off1 i b a + 1 * (y a).val := rfl
  rw [e, k0_off1_eq]
  match a with
  | 0 => show base i b + 1 * (y 0).val = base i b + (y 0).val; omega
  | 1 => show 0 + 1 * (y 1).val = (y 1).val; omega

omit [FloatOps F] in
/-- What a fetch brings is the block that holds any of its rows. -/
theorem fetched (A : Vec F S65536x128 .f32) (b : Fin k0_t1_loop.trips) (r : Nat) (hr : base i b ≤ r ∧ r < base i b + 16) :
    (dS i b).view.read (Elt F) A = blockRows A r := by
  funext y
  have hd : base i b % 16 = 0 := by unfold base; omega
  have := base_lt i b
  have hy : (y 0).val < 16 := (y 0).isLt
  have e : (dS i b).view.read (Elt F) A y = A ((dS i b).view.emb y) := (View.read_apply _ _).trans (cast_eq _ _)
  rw [e, emb_dS]
  unfold blockRows
  congr 2
  apply Fin.ext
  show _ = (16 * (r / 16) + (y 0).val) % 65536
  rw [Nat.mod_eq_of_lt (by omega)]
  show base i b + (y 0).val = _
  omega

/-- A block's results are the whole result's rows there. -/
theorem result_at (Dm Sm : Vec F S65536x128 .f32) (U : Vec F S64 .f32) (b : Fin k0_t1_loop.trips) (y : S16x64.Idx) :
    result Dm Sm U ((oS i b).view.emb y) = blockOut ((dS i b).view.read (Elt F) Dm) ((dS i b).view.read (Elt F) Sm) U y := by
  have hd : base i b % 16 = 0 := by unfold base; omega
  have hy : (y 0).val < 16 := (y 0).isLt
  rw [emb_oS]
  unfold result
  rw [fetched i Dm b (base i b + (y 0).val) (by omega), fetched i Sm b (base i b + (y 0).val) (by omega)]
  congr 1
  refine (congrArg₂ (ix2 (n0 := 16) (n1 := 64)) (Fin.ext ?_) rfl).trans (eq_ix2 y).symm
  show (base i b + (y 0).val) % 16 = _
  omega

omit [FloatOps F] in
/-- A block written out is the whole result's, where the result's rows are the block's. -/
theorem written (b : Fin k0_t1_loop.trips) (X : Vec F S16x64 .f32) (g G : Vec F S65536x64 .f32) (h : ∀ y, G ((oS i b).view.emb y) = X y) :
    ((oS i b).view.loc (tile d i) ↦[(oS i b).view.set]{fullShare} (oS i b).view.writes (Elt F) g [⟨Rect.whole S16x64, X⟩] : sProp (MM F))
      = ((oS i b).view.loc (tile d i) ↦[(oS i b).view.set]{fullShare} G) :=
  pointsTo_congr fun j hj => by
    obtain ⟨x, -, rfl⟩ := Finset.mem_map.mp hj
    have e := View.read_writes_cons_emb (oS i b).view g (Rect.whole S16x64) X [] x
    rw [Rect.emb_whole_apply, View.read_apply] at e
    exact (cast_eq _ _).symm.trans (e.trans (h x).symm)

/-- One block: its rows of the result are computed. -/
theorem wp_block (q : PosShare TreeShare) (Dm Sm : Vec F S65536x128 .f32) (U : Vec F S64 .f32)
    (O : CellTallies nD τ sig (HIx 1)) (W : Waits sig (HIx 1)) (k : Fin k0_t1_loop.trips) (w : BitVec 32) (g : Vec F S65536x64 .f32) :
    iprop(owing d i O W ∗ keep d i q Dm Sm U ∗ ((oS i k).view.loc (tile d i) ↦[(oS i k).view.set]{fullShare} g))
      ⊢ wpT d i (blockTrip i k w) fun _ =>
        iprop(owing d i O W ∗ keep d i q Dm Sm U ∗ ((oS i k).view.loc (tile d i) ↦[(oS i k).view.set]{fullShare} result Dm Sm U)) := by
  unfold wpT blockTrip k0_t1_body
  unfold owing keep
  iintro ⟨⟨Hmw, %W', %hW', HO⟩, ⟨Hdm, Hsm, ⟨%fd, Hd⟩, ⟨%fs, Hs⟩, ⟨%ft, Ht⟩, ⟨%fo, Ho⟩, Hu, Hsem1, Hsem2, Hsem3⟩, Hout⟩
  sl_exec (disch := exact View.amount_pos _ _ (show 0 < S16x128.numel by decide))
  rw [show wp_block.sl.dma0 i Dm k = (dS i k).view.read (Elt F) Dm from rfl, show wp_block.sl.dma0_1 i Sm k = (sS i k).view.read (Elt F) Sm from rfl]
  -- the first sample
  ihave Hd' := (Entails.of_eq (landed_d d i fd ((dS i k).view.read (Elt F) Dm))) $$ Hd
  ihave Hs' := (Entails.of_eq (landed_s d i fs ((sS i k).view.read (Elt F) Sm))) $$ Hs
  iapply (SparseCore.wp_vectorLoadIdx 𝒱₀ (tile d i) none Set.univ (base := dB) (S := Finset.univ) (q := fullShare) (f := (dS i k).view.read (Elt F) Dm) (Finset.subset_univ _)) $$ Hd'
  iintro Hd
  rw [reads_dB ((dS i k).view.read (Elt F) Dm), sample_at (p := fun _ => 0) lanes_at (fun _ => rfl) (fun _ => by decide)]
  -- the table
  ihave Ht' := (Entails.of_eq (own_t d i ft).symm) $$ Ht
  iapply (wp_table d i lanes_at ((dS i k).view.read (Elt F) Dm) ((sS i k).view.read (Elt F) Sm) ft) $$ [Ht' Hd Hs']
  · isplitl [Ht']; · iexact Ht'
    isplitl [Hd]; · iexact Hd
    iexact Hs'
  iintro %acc %ft' %hT Ht Hd Hs
  -- the queries
  ihave Ht' := (Entails.of_eq (own_t d i ft')) $$ Ht
  ihave Ho' := (Entails.of_eq (own_o d i fo).symm) $$ Ho
  iapply (wp_allQueries d i lanes_at hT fo (fu := U)) $$ [Ht' Hd Hu Ho']
  · isplitl [Ht']; · iexact Ht'
    isplitl [Hd]; · iexact Hd
    isplitl [Hu]; · iexact Hu
    iexact Ho'
  iintro %w' %fo' %hfo ⟨Ht, Hd, Hu, Ho⟩
  ihave Ho' := (Entails.of_eq (own_o d i fo')) $$ Ho
  -- the write-out
  unfold wpT
  sl_exec (disch := exact View.amount_pos _ _ (show 0 < S16x64.numel by decide))
  sl_step
  have e : wp_block.sl.dma0_2 d i fo' = blockOut ((dS i k).view.read (Elt F) Dm) ((sS i k).view.read (Elt F) Sm) U := by
    refine Eq.trans (show _ = fo' from rfl) (funext fun y => ?_)
    rw [← hfo y, reads, reads_oB]
  rw [e]
  ihave Hout' := (Entails.of_eq (written d i k (blockOut ((dS i k).view.read (Elt F) Dm) ((sS i k).view.read (Elt F) Sm) U) g (result Dm Sm U) (result_at i Dm Sm U k))) $$ Hout
  isplitl [Hmw HO]
  · isplitl [Hmw]; · iexact Hmw
    iexists _; isplitr
    rotate_left
    · iexact HO
    ipureintro
    intro p hp
    simp only [Finset.mem_insert] at hp
    rcases hp with rfl | rfl | rfl | hp
    · exact .inr rfl
    · exact .inr rfl
    · exact .inr rfl
    · exact hW' p hp
  isplitr [Hout']
  · isplitl [Hdm]; · iexact Hdm
    isplitl [Hsm]; · iexact Hsm
    isplitl [Hd]; · iexists _; iexact Hd
    isplitl [Hs]; · iexists _; iexact Hs
    isplitl [Ht]; · iexists _; iexact Ht
    isplitl [Ho']; · iexists _; iexact Ho'
    isplitl [Hu]; · iexact Hu
    isplitl [Hsem1]; · iexact Hsem1
    isplitl [Hsem2]; · iexact Hsem2
    iexact Hsem3
  iexact Hout'

end Cert.KernelIdeal.Hand

end
-- ==== Proof.Tile.lean ====
/- One tile: the sample positions are fetched once, then its 128 blocks are computed one after the other; the rows of
   the result that are the tile's hold the whole result's values. -/
module

public import proofs.«01_k».proof.Proof.Block

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (d : Dev nD) (i : grid0.Coords)

/-! ## The blocks of a tile -/

/-- A tile's blocks of the result, the ones below `n` computed. -/
def blocks (n : Nat) (g G : Vec F S65536x64 .f32) : sProp (MM F) :=
  bigSep Finset.univ fun b : Fin k0_t1_loop.trips => (oS i b).view.loc (tile d i) ↦[(oS i b).view.set]{fullShare} (if b.val < n then G else g)

omit [FloatOps F] in
theorem blocks_zero (g G : Vec F S65536x64 .f32) :
    blocks d i 0 g G = bigSep Finset.univ fun b : Fin k0_t1_loop.trips => ((oS i b).view.loc (tile d i) ↦[(oS i b).view.set]{fullShare} g : sProp (MM F)) :=
  bigSep_congr fun b _ => by rw [if_neg (Nat.not_lt_zero _)]

omit [FloatOps F] in
theorem blocks_all (g G : Vec F S65536x64 .f32) :
    blocks d i k0_t1_loop.trips g G = bigSep Finset.univ fun b : Fin k0_t1_loop.trips => ((oS i b).view.loc (tile d i) ↦[(oS i b).view.set]{fullShare} G : sProp (MM F)) :=
  bigSep_congr fun b _ => by rw [if_pos b.isLt]

omit [FloatOps F] in
/-- Block `k` apart, before it is computed. -/
theorem blocks_here (k : Fin k0_t1_loop.trips) (g G : Vec F S65536x64 .f32) :
    blocks d i k.val g G = iprop(((oS i k).view.loc (tile d i) ↦[(oS i k).view.set]{fullShare} g)
      ∗ bigSep (Finset.univ.erase k) fun b => (oS i b).view.loc (tile d i) ↦[(oS i b).view.set]{fullShare} (if b.val < k.val then G else g)) := by
  unfold blocks
  rw [SparseCore.bigSep_erase' (Finset.mem_univ k), if_neg (Nat.lt_irrefl _)]

omit [FloatOps F] in
/-- Block `k` apart, once it is computed. -/
theorem blocks_next (k : Fin k0_t1_loop.trips) (g G : Vec F S65536x64 .f32) :
    blocks d i (k.val + 1) g G = iprop(((oS i k).view.loc (tile d i) ↦[(oS i k).view.set]{fullShare} G)
      ∗ bigSep (Finset.univ.erase k) fun b => (oS i b).view.loc (tile d i) ↦[(oS i b).view.set]{fullShare} (if b.val < k.val then G else g)) := by
  unfold blocks
  rw [SparseCore.bigSep_erase' (Finset.mem_univ k), if_pos (Nat.lt_succ_self _)]
  refine congrArg (fun X : sProp (MM F) => iprop(((oS i k).view.loc (tile d i) ↦[(oS i k).view.set]{fullShare} G) ∗ X)) (bigSep_congr fun b hb => ?_)
  have hne : b.val ≠ k.val := fun e => (Finset.mem_erase.mp hb).1 (Fin.ext e)
  by_cases h : b.val < k.val
  · rw [if_pos h, if_pos (by omega)]
  · rw [if_neg h, if_neg (by omega)]

/-- What a tile holds before block `k`. -/
def blockInv (q : PosShare TreeShare) (Dm Sm : Vec F S65536x128 .f32) (U : Vec F S64 .f32) (g : Vec F S65536x64 .f32)
    (O : CellTallies nD τ sig (HIx 1)) (W : Waits sig (HIx 1)) (k : Nat) (_ : BitVec 32) : sProp (MM F) :=
  iprop(owing d i O W ∗ keep d i q Dm Sm U ∗ blocks d i k g (result Dm Sm U))

theorem wp_blockTrip (q : PosShare TreeShare) (Dm Sm : Vec F S65536x128 .f32) (U : Vec F S64 .f32) (g : Vec F S65536x64 .f32)
    (O : CellTallies nD τ sig (HIx 1)) (W : Waits sig (HIx 1)) (k : Fin k0_t1_loop.trips) (w : BitVec 32) :
    blockInv d i q Dm Sm U g O W k.val w ⊢ wpT d i (blockTrip (F := F) i k w) (blockInv d i q Dm Sm U g O W (k.val + 1)) := by
  have hb := wp_block (F := F) d i q Dm Sm U O W k w g
  generalize blockTrip (F := F) i k w = p at hb ⊢
  unfold wpT at hb ⊢
  unfold blockInv
  rw [blocks_here, blocks_next]
  iintro ⟨HO, Hk, Hout, Hrest⟩
  iapply (wp_wand_r frame (wpE (defs₀ (F := F)) 𝒱₀ (tile d i) none) Set.univ)
  isplitr [Hrest]
  · iapply hb
    isplitl [HO]; · iexact HO
    isplitl [Hk]; · iexact Hk
    iexact Hout
  iintro %_ ⟨HO, Hk, Hout⟩
  isplitl [HO]; · iexact HO
  isplitl [Hk]; · iexact Hk
  isplitl [Hout]; · iexact Hout
  iexact Hrest

/-! ## What the call hands a tile and takes back -/

/-- A read share of the inputs and the sample positions, and the tile's blocks of the result at `g`. -/
def task (q : PosShare TreeShare) (Dm Sm : Vec F S65536x128 .f32) (U : Vec F S64 .f32) (g : Vec F S65536x64 .f32) : sProp (MM F) :=
  iprop((dM.view.loc (tile d i) ↦{q} Dm) ∗ (sM.view.loc (tile d i) ↦{q} Sm) ∗ (uM.view.loc (tile d i) ↦{q} U)
    ∗ bigSep Finset.univ fun b : Fin k0_t1_loop.trips => (oS i b).view.loc (tile d i) ↦[(oS i b).view.set]{fullShare} g)

/-! ## The tile's own semaphores and buffers -/

abbrev cell (n : DmaSem sig) : GSem nD τ sig := (tile d i, .dma n)

omit [FloatOps F] in
theorem ownSems0_tile :
    (ownSems0 (tile d i) : sProp (MM F))
      = iprop(semVal (cell d i cc0_scoped0.sem) 0 ∗ semVal (cell d i cc0_scoped1.sem) 0 ∗ semVal (cell d i cc0_scoped2.sem) 0 ∗ semVal (cell d i cc0_scoped3.sem) 0
          ∗ bigSep (((((ownCells (tile d i)).erase (cell d i cc0_scoped0.sem)).erase (cell d i cc0_scoped1.sem)).erase (cell d i cc0_scoped2.sem)).erase (cell d i cc0_scoped3.sem))
              fun g => semVal g 0) := by
  have hm : ∀ n : DmaSem sig, (SemLoc.dma n : SemLoc sig).isScoped .scVector = true → cell d i n ∈ ownCells (tile d i) := fun n hn => mem_ownCells.mpr ⟨rfl, hn⟩
  have hne : ∀ n n' : DmaSem sig, n ≠ n' → cell d i n ≠ cell d i n' := fun n n' h e => h (SemLoc.dma.inj (Prod.mk.inj e).2)
  unfold SparseCore.Cfg.ownSems0
  rw [SparseCore.bigSep_erase' (hm cc0_scoped0.sem (by decide)),
    SparseCore.bigSep_erase' (Finset.mem_erase.mpr ⟨hne cc0_scoped1.sem _ (by decide), hm _ (by decide)⟩),
    SparseCore.bigSep_erase' (Finset.mem_erase.mpr ⟨hne cc0_scoped2.sem _ (by decide), Finset.mem_erase.mpr ⟨hne _ _ (by decide), hm _ (by decide)⟩⟩),
    SparseCore.bigSep_erase' (Finset.mem_erase.mpr ⟨hne cc0_scoped3.sem _ (by decide), Finset.mem_erase.mpr ⟨hne _ _ (by decide), Finset.mem_erase.mpr ⟨hne _ _ (by decide), hm _ (by decide)⟩⟩⟩)]

abbrev me : Proc τ := .scVector ((i 0).castLE hcore0) ((i 1).castLE hsub0)

omit [FloatOps F] in
theorem ownBufs_tile :
    (ownBufs (tile d i) : sProp (MM F))
      = iprop((∃ f, dB.view.loc (tile d i) ↦{fullShare} f) ∗ (∃ f, sB.view.loc (tile d i) ↦{fullShare} f) ∗ (∃ f, tB.view.loc (tile d i) ↦{fullShare} f)
          ∗ (∃ f, oB.view.loc (tile d i) ↦{fullShare} f) ∗ (∃ f, uB.view.loc (tile d i) ↦{fullShare} f)
          ∗ bigSep ((((((ownRefs (τ := τ) (me i)).erase ((me i).devRef cc0_scratch0)).erase ((me i).devRef cc0_scratch1)).erase ((me i).devRef cc0_scratch2)).erase
              ((me i).devRef cc0_scratch3)).erase ((me i).devRef cc0_scratch4)) fun b => iprop(∃ f, ((d, b) : Loc nD τ sig) ↦{fullShare} f)) := by
  have hm : ∀ r : Ref sig .scVector, ((me i).devRef r).owner = .proc (me i) → (me i).devRef r ∈ ownRefs (τ := τ) (me i) := fun r hr => SparseCore.Cfg.mem_ownRefs_of_owner hr
  have hne : ∀ r r' : Ref sig .scVector, r ≠ r' → (me i).devRef r ≠ (me i).devRef r' := fun r r' h e => h (Proc.devRef_injective _ e)
  unfold SparseCore.Cfg.ownBufs
  refine (SparseCore.bigSep_erase' (hm cc0_scratch0 rfl)).trans ?_
  rw [SparseCore.bigSep_erase' (Finset.mem_erase.mpr ⟨hne cc0_scratch1 _ (by decide), hm _ rfl⟩),
    SparseCore.bigSep_erase' (Finset.mem_erase.mpr ⟨hne cc0_scratch2 _ (by decide), Finset.mem_erase.mpr ⟨hne _ _ (by decide), hm _ rfl⟩⟩),
    SparseCore.bigSep_erase' (Finset.mem_erase.mpr ⟨hne cc0_scratch3 _ (by decide), Finset.mem_erase.mpr ⟨hne _ _ (by decide), Finset.mem_erase.mpr ⟨hne _ _ (by decide), hm _ rfl⟩⟩⟩),
    SparseCore.bigSep_erase' (Finset.mem_erase.mpr ⟨hne cc0_scratch4 _ (by decide), Finset.mem_erase.mpr ⟨hne _ _ (by decide), Finset.mem_erase.mpr ⟨hne _ _ (by decide), Finset.mem_erase.mpr ⟨hne _ _ (by decide), hm _ rfl⟩⟩⟩⟩)]

/-! ## The tile's run -/

omit [FloatOps F] in
/-- The positions' scratch holds them once they are fetched. -/
theorem landed_u (g f : Vec F S64 .f32) :
    (uB.view.loc (tile d i) ↦{fullShare} uB.view.write (Elt F) g f Finset.univ : sProp (MM F)) = (uB.view.loc (tile d i) ↦{fullShare} f) :=
  congrArg (fun h => (uB.view.loc (tile d i) ↦{fullShare} h : sProp (MM F))) (View.write_whole_univ cc0_scratch4 g f)

/-- The kernel on a tile, as the launch applies it. -/
abbrev kern := cc0__sc_body (F := F) i dM (Memref.isWhole_whole _) sM (Memref.isWhole_whole _) uM (Memref.isWhole_whole _)
  oM (Memref.isWhole_whole _) dB (Memref.isWhole_whole _) sB (Memref.isWhole_whole _) tB (Memref.isWhole_whole _) oB (Memref.isWhole_whole _)
  uB (Memref.isWhole_whole _) cc0_scoped0 cc0_scoped1 cc0_scoped2 cc0_scoped3

/-- The tile computes its rows of the result. -/
theorem tile_body (hF : (K (F := F)).Facts) (q : PosShare TreeShare) (Dm Sm : Vec F S65536x128 .f32) (U : Vec F S64 .f32) (g : Vec F S65536x64 .f32)
    (O : CellTallies nD τ sig (HIx 1)) (W : Waits sig (HIx 1)) (hO : ∀ g, O g none = 0) :
    iprop(levAts (K (F := F)).L (K (F := F)).lev ∗ emp ∗ task d i q Dm Sm U g ∗ scopedBufs (tile d i) ∗ scopedSems0 (tile d i) ∗ owes (tile d i) O W)
      ⊢ wp frame (wpE (defs₀ (F := F)) 𝒱₀ (tile d i) none) Set.univ (kern i)
          fun _ => iprop(task d i q Dm Sm U (result Dm Sm U) ∗ scopedBufs (tile d i) ∗ scopedSems0 (tile d i)
            ∗ ∃ W', ⌜∀ p ∈ W', p ∈ W ∨ p.2 = none⌝ ∗ owes (tile d i) O W') := by
  unfold kern
  rw [cc0__sc_body_eq_skeleton]
  unfold cc0__sc_body_skel
  simp only [Prog.lift, Prog.bind_op, Prog.bind_ret]
  rw [wp_assume_of _ _ _ _ chk_first]
  rw [(K (F := F)).scopedBufs_V hF d ((i 0).castLE hcore0) ((i 1).castLE hsub0), SparseCore.Cfg.scopedSems0_V (Val := Elt F) d ((i 0).castLE hcore0) ((i 1).castLE hsub0),
    ownSems0_tile, ownBufs_tile]
  unfold task
  iintro ⟨#Hlv, -, ⟨Hdm, Hsm, Hum, Hout⟩, ⟨⟨%fd, Hd⟩, ⟨%fs, Hs⟩, ⟨%ft, Ht⟩, ⟨%fo, Ho⟩, ⟨%fu, Hu⟩, Hbufs⟩, ⟨Hsem0, Hsem1, Hsem2, Hsem3, Hsems⟩, HO⟩
  ihave Hmw := ((K (F := F)).mayWaits_none (thr := tile d i) hO) $$ Hlv
  sl_exec
  rw [show tile_body.sl.dma0 U = U from rfl]
  ihave Hu' := (Entails.of_eq (landed_u d i fu U)) $$ Hu
  ihave Hb := (Entails.of_eq (blocks_zero d i g (result Dm Sm U)).symm) $$ Hout
  iapply (wp_trips d i k0_t1_loop k0_t1_ok 0#32 (blockTrip i) (blockInv d i q Dm Sm U g O W) (wp_blockTrip d i q Dm Sm U g O W)) $$ [Hmw HO Hdm Hsm Hd Hs Ht Ho Hu' Hsem1 Hsem2 Hsem3 Hb]
  · unfold blockInv owing keep
    isplitl [HO]
    · isplitr; · iexact Hmw
      iexists _
      isplitr
      pick_goal 2; · iexact HO
      ipureintro
      intro p hp
      rcases Finset.mem_insert.mp hp with h | h
      · exact Or.inr (congrArg Prod.snd h)
      · exact Or.inl h
    isplitr [Hb]
    pick_goal 2; · iexact Hb
    isplitl [Hdm]; · iexact Hdm
    isplitl [Hsm]; · iexact Hsm
    isplitl [Hd]; · iexists _; iexact Hd
    isplitl [Hs]; · iexists _; iexact Hs
    isplitl [Ht]; · iexists _; iexact Ht
    isplitl [Ho]; · iexists _; iexact Ho
    isplitl [Hu']; · iexact Hu'
    isplitl [Hsem1]; · iexact Hsem1
    isplitl [Hsem2]; · iexact Hsem2
    iexact Hsem3
  iintro %_ HI
  unfold blockInv
  rw [blocks_all]
  unfold owing keep
  icases HI with ⟨⟨-, %W', %hW', HO⟩, ⟨Hdm, Hsm, Hd, Hs, Ht, Ho, Hu, Hsem1, Hsem2, Hsem3⟩, Hb⟩
  unfold wpT
  sl_step
  isplitl [Hdm Hsm Hum Hb]
  · isplitl [Hdm]; · iexact Hdm
    isplitl [Hsm]; · iexact Hsm
    isplitl [Hum]; · iexact Hum
    iexact Hb
  isplitl [Hd Hs Ht Ho Hu Hbufs]
  · isplitl [Hd]; · iexact Hd
    isplitl [Hs]; · iexact Hs
    isplitl [Ht]; · iexact Ht
    isplitl [Ho]; · iexact Ho
    isplitl [Hu]; · iexists _; iexact Hu
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists W'
  isplitr
  · ipureintro; exact hW'
  iexact HO

end Cert.KernelIdeal.Hand

end
-- ==== Proof.Host.lean ====
/- What the host does before the call: 64 positions, evenly spaced from 0 to 1. -/
module

public import proofs.«01_k».proof.Proof.Setup
public import Idealize.ShloMosaic.Lib.Pipeline.Frame

@[expose] public section

noncomputable section

namespace Cert.KernelIdeal.Hand

open Cert.KernelIdeal Cert.KernelIdeal.Gen
open Idealize.ShloMosaic Idealize.ShloMosaic.StableHlo
open Idealize.SL Idealize.SL.Sem

variable {F : FTy → Type} [FloatOps F]

/-- The 63 steps `t / 63`. -/
def steps : Vec F S63 .f32 :=
  Host.divf (sitofp .f32 (iotaInDim S63 32 0)) (broadcastInDim S63 ![] bcast_S_S63 (constant S_ .f32 0x427C0000#32))

/-- The positions: `0 * (1 - t/63) + 1 * (t/63)` for `t` below 63, then 1. -/
def positions : Vec F S64 .f32 :=
  concatenate S64 0
    [⟨S63, addf (mulf (broadcastInDim S63 ![0] bcast_S1_S63_0 (shapeCast S1 (constant S_ .f32 0x00000000#32) shapeCasts_S_S1))
          (subf (broadcastInDim S63 ![] bcast_S_S63 (constant S_ .f32 0x3F800000#32)) steps))
        (mulf (broadcastInDim S63 ![0] bcast_S1_S63_0 (shapeCast S1 (constant S_ .f32 0x3F800000#32) shapeCasts_S_S1)) steps)⟩,
      ⟨S1, broadcastInDim S1 ![] bcast_S_S1 (constant S_ .f32 0x3F800000#32)⟩] concatenates_S63_S1_S64_d0

/-- The host's operations before the call. -/
abbrev ops : List (HloOp τ sig (Elt F)) :=
  [ nullary main_cst (constant S_ .f32 0x00000000#32),
    nullary main_cst_0 (constant S_ .f32 0x3F800000#32),
    TRef.unary (.of main_cst) main_call0.v0 id,
    TRef.unary (.of main_cst_0) main_call0.v1 id,
    TRef.binary main_call0.v1 main_call0.v0 main_call0.v2 subf,
    TRef.nullary main_call0.cst (constant S_ .f32 0x427C0000#32),
    TRef.binary main_call0.v2 main_call0.cst main_call0.v3 Host.divf,
    TRef.nullary main_call0.v4 (sitofp .f32 (iotaInDim S63 32 0)),
    TRef.nullary main_call0.cst_0 (constant S_ .f32 0x427C0000#32),
    TRef.unary main_call0.cst_0 main_call0.v5 (broadcastInDim S63 ![] bcast_S_S63),
    TRef.binary main_call0.v4 main_call0.v5 main_call0.v6 Host.divf,
    TRef.reshape main_call0.v0 main_call0.v7 (rfl : (.f32 : EltTy) = .f32) shapeCasts_S_S1,
    TRef.nullary main_call0.cst_1 (constant S_ .f32 0x3F800000#32),
    TRef.unary main_call0.cst_1 main_call0.v8 (broadcastInDim S63 ![] bcast_S_S63),
    TRef.binary main_call0.v8 main_call0.v6 main_call0.v9 subf,
    TRef.unary main_call0.v7 main_call0.v10 (broadcastInDim S63 ![0] bcast_S1_S63_0),
    TRef.binary main_call0.v10 main_call0.v9 main_call0.v11 mulf,
    TRef.reshape main_call0.v1 main_call0.v12 (rfl : (.f32 : EltTy) = .f32) shapeCasts_S_S1,
    TRef.unary main_call0.v12 main_call0.v13 (broadcastInDim S63 ![0] bcast_S1_S63_0),
    TRef.binary main_call0.v13 main_call0.v6 main_call0.v14 mulf,
    TRef.binary main_call0.v11 main_call0.v14 main_call0.v15 addf,
    TRef.unary main_call0.v1 main_call0.v16 (broadcastInDim S1 ![] bcast_S_S1),
    TRef.binary main_call0.v15 main_call0.v16 main_call0.v17 (fun a b => concatenate S64 0 [⟨S63, a⟩, ⟨S1, b⟩] concatenates_S63_S1_S64_d0) ]

set_option maxRecDepth 8192 in
theorem main_eq (d : Dev nD) : main (F := F) d = seq ops >>= fun _ => sc.run d 0 >>= fun _ => pure ⟨⟩ := rfl

set_option maxRecDepth 8192 in
theorem ops_sub : (ops (F := F)).Forall fun op => op.bufs ⊆ tcRefs τ sig :=
  ⟨nullary_bufs_sub .., nullary_bufs_sub .., unary_bufs_sub .., unary_bufs_sub .., binary_bufs_sub .., nullary_bufs_sub .., binary_bufs_sub ..,
    nullary_bufs_sub .., nullary_bufs_sub .., unary_bufs_sub .., binary_bufs_sub .., reshape_bufs_sub .., nullary_bufs_sub .., unary_bufs_sub ..,
    binary_bufs_sub .., unary_bufs_sub .., binary_bufs_sub .., reshape_bufs_sub .., unary_bufs_sub .., binary_bufs_sub .., binary_bufs_sub ..,
    unary_bufs_sub .., binary_bufs_sub ..⟩

theorem ops_fresh : ∀ op ∈ (ops (F := F)), op.fresh = ∅ :=
  List.forall_iff_forall_mem.mp (forall_fresh_of_map rfl)

/-- The buffers the host writes. -/
abbrev opsW : List (Ref sig .tc) :=
  [main_cst, main_cst_0, main_call0_v0, main_call0_v1, main_call0_v2, main_call0_cst, main_call0_v3, main_call0_v4, main_call0_cst_0, main_call0_v5,
    main_call0_v6, main_call0_v7, main_call0_cst_1, main_call0_v8, main_call0_v9, main_call0_v10, main_call0_v11, main_call0_v12, main_call0_v13,
    main_call0_v14, main_call0_v15, main_call0_v16, main_v0]

set_option maxRecDepth 8192 in
/-- A buffer the host does not write keeps its contents. -/
theorem after_keep (V : Valuation τ sig (Elt F)) (r : Ref sig .tc) (h : r ∉ opsW) :
    after ops V (Proc.devRef .tc r) = V (Proc.devRef .tc r) :=
  after_of_writes_sub (W := opsW) ops V (forall_writes_sub_of_map rfl) h

set_option maxRecDepth 8192 in
set_option maxHeartbeats 2000000 in
/-- The host leaves the positions where the call reads them. -/
theorem after_positions (V : Valuation τ sig (Elt F)) : after ops V (Proc.devRef .tc main_v0) = positions := by
  simp only [ops, TRef.binary, TRef.nullary, TRef.reshape, TRef.unary, TRef.toBuf, TRef.ofBuf, cast_eq]
  after_results_simp
  all_goals rfl

end Cert.KernelIdeal.Hand

end
-- ==== Proof.Deal.lean ====
/- How the arrays are dealt: the inputs and the positions go to the 32 tiles as read shares, the result as 4096 blocks of
   16 rows. -/
module

public import proofs.«01_k».proof.Proof.Tile
public import proofs.«01_k».proof.Proof.Host

@[expose] public section

noncomputable section

namespace Cert.KernelIdeal.Hand

open Cert.KernelIdeal Cert.KernelIdeal.Gen
open Idealize.ShloMosaic
open Idealize.ShloMosaic.SparseCore (S V)
open Idealize.ShloMosaic.SparseCore.Cfg (HIx Pay)
open Idealize.ShloMosaic.Transfers (shareDrop shareTokN shareTok pointsTo_toks)
open Idealize.ShloMosaic.StableHlo (held held_sub_split held_congr wp_seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The blocks of the result -/

/-- A tile's grid coordinates. -/
def coords (c : Fin 2) (s : Fin 16) : grid0.Coords := fun | 0 => c | 1 => s | ⟨_ + 2, h⟩ => absurd h (Nat.not_lt.2 (Nat.le_add_left _ _))

/-- The elements of a block. -/
abbrev blockSet (t : Fin 2 × Fin 16 × Fin k0_t1_loop.trips) : Finset S65536x64.Idx := (oS (coords t.1 t.2.1) t.2.2).view.set

theorem mem_blockSet (t : Fin 2 × Fin 16 × Fin k0_t1_loop.trips) (x : S65536x64.Idx) :
    x ∈ blockSet t ↔ base (coords t.1 t.2.1) t.2.2 ≤ (x 0).val ∧ (x 0).val < base (coords t.1 t.2.1) t.2.2 + 16 := by
  constructor
  · intro h
    obtain ⟨y, -, e⟩ := Finset.mem_map.mp h
    have hy : (y 0).val < 16 := (y 0).isLt
    have e0 : (x 0).val = base (coords t.1 t.2.1) t.2.2 + (y 0).val := by
      rw [← e, emb_oS]; rfl
    omega
  · rintro ⟨h1, h2⟩
    refine Finset.mem_map.mpr ⟨ix2 (n0 := 16) (n1 := 64) ⟨(x 0).val - base (coords t.1 t.2.1) t.2.2, by omega⟩ (x 1), Finset.mem_univ _, ?_⟩
    rw [emb_oS]
    refine ((eq_ix2 (n0 := 65536) (n1 := 64) x).trans ?_).symm
    congr 1
    apply Fin.ext
    show (x 0).val = base (coords t.1 t.2.1) t.2.2 + ((x 0).val - base (coords t.1 t.2.1) t.2.2)
    omega

theorem trips_eq : k0_t1_loop.trips = 128 := rfl

theorem base_coords (c : Fin 2) (s : Fin 16) (b : Fin k0_t1_loop.trips) : base (coords c s) b = 32768 * c.val + 2048 * s.val + 16 * b.val := rfl

theorem blocks_disjoint : ∀ t ∈ (Finset.univ : Finset (Fin 2 × Fin 16 × Fin k0_t1_loop.trips)),
    ∀ t' ∈ (Finset.univ : Finset (Fin 2 × Fin 16 × Fin k0_t1_loop.trips)), t ≠ t' → Disjoint (blockSet t) (blockSet t') := by
  rintro ⟨c, s, b⟩ - ⟨c', s', b'⟩ - hne
  rw [Finset.disjoint_left]
  intro x h h'
  rw [mem_blockSet] at h h'
  simp only [base_coords] at h h'
  have hb : b.val < 128 := b.isLt
  have hb' : b'.val < 128 := b'.isLt
  have hc := c.isLt; have hc' := c'.isLt; have hs := s.isLt; have hs' := s'.isLt
  refine hne (Prod.ext (Fin.ext ?_) (Prod.ext (Fin.ext ?_) (Fin.ext ?_))) <;> dsimp only <;> omega

theorem blocks_cover : (Finset.univ : Finset (Fin 2 × Fin 16 × Fin k0_t1_loop.trips)).biUnion blockSet = Finset.univ := by
  refine Finset.eq_univ_of_forall fun x => ?_
  rw [Finset.mem_biUnion]
  have hx : (x 0).val < 65536 := Fin.isLt (n := 65536) (x 0)
  generalize hn : (x 0).val = n at hx
  have h0 : n / 32768 < 2 := by omega
  have h1 : n % 32768 / 2048 < 16 := by omega
  have h2 : n % 2048 / 16 < k0_t1_loop.trips := by rw [trips_eq]; omega
  refine ⟨(⟨n / 32768, h0⟩, ⟨n % 32768 / 2048, h1⟩, ⟨n % 2048 / 16, h2⟩), Finset.mem_univ _, ?_⟩
  rw [mem_blockSet, base_coords, hn]
  dsimp only
  omega

/-! ## The arrays, as the host holds them and as the tiles do -/

abbrev dLoc (d : Dev nD) : Loc nD τ sig := (SparseCore.T d).loc main_arg0
abbrev sLoc (d : Dev nD) : Loc nD τ sig := (SparseCore.T d).loc main_arg1
abbrev uLoc (d : Dev nD) : Loc nD τ sig := (SparseCore.T d).loc main_v0
abbrev oLoc (d : Dev nD) : Loc nD τ sig := (SparseCore.T d).loc main_v1

/-- The whole result is its blocks. -/
theorem result_blocks (d : Dev nD) (g : Vec F S65536x64 .f32) :
    (oLoc d ↦{fullShare} g : sProp (MM F))
      = bigSep Finset.univ fun c : Fin 2 => bigSep Finset.univ fun s : Fin 16 => bigSep Finset.univ fun b : Fin k0_t1_loop.trips =>
          (oS (coords c s) b).view.loc (tile d (coords c s)) ↦[(oS (coords c s) b).view.set]{fullShare} g := by
  rw [show (oLoc d ↦{fullShare} g : sProp (MM F)) = (oLoc d ↦[(Finset.univ : Finset (Fin 2 × Fin 16 × Fin k0_t1_loop.trips)).biUnion blockSet]{fullShare} g) from by
      rw [blocks_cover],
    pointsTo_biUnion Finset.univ (ℓ := oLoc d) blockSet blocks_disjoint, bigSep_univ_prod]
  exact bigSep_congr fun c _ => bigSep_univ_prod _

/-- The read share of a tile. -/
abbrev share (c : Fin 2) (s : Fin 16) : PosShare TreeShare := shareTokN fullShare (16 * c.val + s.val)

theorem bigSep_tiles (Φ : Nat → sProp (MM F)) :
    (bigSep Finset.univ fun n : Fin 32 => Φ n.val) = bigSep Finset.univ fun c : Fin 2 => bigSep Finset.univ fun s : Fin 16 => Φ (16 * c.val + s.val) := by
  rw [← bigSep_univ_prod (fun t : Fin 2 × Fin 16 => Φ (16 * t.1.val + t.2.val)),
    show (Finset.univ : Finset (Fin 32)) = Finset.univ.map (finProdFinEquiv (m := 2) (n := 16)).toEmbedding from (Finset.map_univ_equiv _).symm, bigSep_map]
  refine bigSep_congr fun t _ => congrArg Φ ?_
  show t.2.val + 16 * t.1.val = _
  omega

/-- An array the tiles read is a share kept back and one share each. -/
theorem shares {ℓ : Loc nD τ sig} (f : Buf (Elt F) ℓ) :
    (ℓ ↦{fullShare} f : sProp (MM F))
      ⊣⊢ iprop((ℓ ↦{shareDrop fullShare 32} f) ∗ bigSep Finset.univ fun c : Fin 2 => bigSep Finset.univ fun s : Fin 16 => ℓ ↦{share c s} f) := by
  rw [← bigSep_tiles (fun n => (ℓ ↦{shareTokN fullShare n} f : sProp (MM F)))]
  exact pointsTo_toks fullShare 32

/-- What the call takes for all the tiles, or hands back for them. -/
def tasks (d : Dev nD) (Dm Sm : Vec F S65536x128 .f32) (U : Vec F S64 .f32) (g : Vec F S65536x64 .f32) : sProp (MM F) :=
  bigSep Finset.univ fun c : Fin 2 => bigSep Finset.univ fun s : Fin 16 => task d (coords c s) (share c s) Dm Sm U g

theorem tasks_eq (d : Dev nD) (Dm Sm : Vec F S65536x128 .f32) (U : Vec F S64 .f32) (g : Vec F S65536x64 .f32) :
    tasks d Dm Sm U g
      = iprop((bigSep Finset.univ fun c : Fin 2 => bigSep Finset.univ fun s : Fin 16 => dLoc d ↦{share c s} Dm)
          ∗ (bigSep Finset.univ fun c : Fin 2 => bigSep Finset.univ fun s : Fin 16 => sLoc d ↦{share c s} Sm)
          ∗ (bigSep Finset.univ fun c : Fin 2 => bigSep Finset.univ fun s : Fin 16 => uLoc d ↦{share c s} U)
          ∗ (oLoc d ↦{fullShare} g)) := by
  rw [result_blocks]
  unfold tasks task
  simp only [bigSep_sep']

end Cert.KernelIdeal.Hand

end
-- ==== Proof.Launch.lean ====
/- The launch: each tile is handed its shares and blocks, and the program's run follows from the tiles' runs. -/
module

public import proofs.«01_k».proof.Proof.Deal

@[expose] public section

noncomputable section

namespace Cert.KernelIdeal.Hand

open Cert.KernelIdeal Cert.KernelIdeal.Gen
open Idealize.ShloMosaic
open Idealize.ShloMosaic.SparseCore (S V)
open Idealize.ShloMosaic.SparseCore.Cfg (HIx Pay)
open Idealize.ShloMosaic.Transfers (shareDrop shareTokN shareTok pointsTo_toks)
open Idealize.ShloMosaic.StableHlo (held held_sub_split held_congr wp_seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## What the call hands each tile -/

variable (m : (ℓ : Loc nD τ sig) → Buf (Elt F) ℓ) (ρ : Dev nD → PrngReg)

abbrev depths (d : Dev nD) : Vec F S65536x128 .f32 := m (dLoc d)
abbrev dists (d : Dev nD) : Vec F S65536x128 .f32 := m (sLoc d)

variable [FloatOps F]

/-- What the program leaves in the result. -/
def final (d : Dev nD) : Vec F S65536x64 .f32 := result (depths m d) (dists m d) positions

abbrev give (d : Dev nD) (c : Fin 2) (s : Fin 16) : sProp (MM F) := task d (coords c s) (share c s) (depths m d) (dists m d) positions (m (oLoc d))
abbrev back (d : Dev nD) (c : Fin 2) (s : Fin 16) : sProp (MM F) := task d (coords c s) (share c s) (depths m d) (dists m d) positions (final m d)

def P : (K (F := F)).Pay (nD := nD) (Val := Elt F) (Name := ℕ) (U := UU) where
  st := fun q d c => match q with | 0 => bigSep Finset.univ fun s : Fin 16 => give m d c s
  dn := fun q d c => match q with | 0 => bigSep Finset.univ fun s : Fin 16 => back m d c s
  go := fun q d c s => match q with | 0 => give m d c s
  td := fun q d c s => match q with | 0 => back m d c s
  x := fun _ _ => iprop(emp)

instance task_storable (d : Dev nD) (i : grid0.Coords) (q : PosShare TreeShare) (Dm Sm : Vec F S65536x128 .f32) (U : Vec F S64 .f32) (g : Vec F S65536x64 .f32) :
    BI.Storable (upEmb : UEmb _ (MM F)) (task d i q Dm Sm U g) := by
  unfold task; infer_instance

instance P_storable : (P (F := F) m).IsStorable where
  st q d c := match q with
    | 0 => (inferInstance : BI.Storable (upEmb : UEmb _ (MM F)) (bigSep Finset.univ fun s : Fin 16 => give m d c s))
  dn q d c := match q with
    | 0 => (inferInstance : BI.Storable (upEmb : UEmb _ (MM F)) (bigSep Finset.univ fun s : Fin 16 => back m d c s))
  go q d c s := match q with
    | 0 => (inferInstance : BI.Storable (upEmb : UEmb _ (MM F)) (give m d c s))
  td q d c s := match q with
    | 0 => (inferInstance : BI.Storable (upEmb : UEmb _ (MM F)) (back m d c s))

/-! ## The launch's obligations -/

theorem defs₀_tile (c : Fin τ.nSC) (s : Fin τ.nSub) :
    defs₀ (F := F) (.scVector c s) 0 () = SparseCore.onTile hcore0 hsub0 (fun c s => kern (F := F) (coords c s)) ⟨⟩ c s := rfl

omit [FloatOps F] in
theorem end_waits {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_tile]
  have hb := (tile_body d (coords c s) facts (share c s) (depths m d) (dists m d) positions (m (oLoc d)) O W hO).trans (wp_mono frame _ _ fun _ => end_waits (q := 0))
  simp only [SparseCore.onTile, hc, and_self, ↓reduceDIte]
  exact hb

theorem vecSplit : (K (F := F)).VecSplit' (P m) 0 := by
  intro d c
  show (bigSep Finset.univ fun s : Fin 16 => give m d c s) ⊢ |={Set.univ}=> iprop((bigSep Finset.univ fun s : Fin 16 => give m d c s)
    ∗ ((bigSep Finset.univ fun s : Fin 16 => back m d c s) -∗ bigSep Finset.univ fun s : Fin 16 => back m d c s))
  iintro H; imodintro
  isplitl [H]; · iexact H
  iintro H; iexact H

/-- The launch's ghost state: the handshakes' rounds and no counter. -/
def u₀ : UU := (initOf (K (F := F)).hsCells (K (F := F)).hsToks, 1)

omit [FloatOps F] in
theorem bigSep_none {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_none]; iempintro
  unfold P; dsimp only
  rw [show (bigSep Finset.univ fun _ : Thread nD τ => bigSep Finset.univ fun _ : Fin 1 => (iprop(emp) : sProp (MM F))) = iprop(emp) from by
    rw [bigSep_congr fun _ _ => bigSep_none _, bigSep_none]]
  iempintro

/-! ## The host's thread -/

/-- The launch's contents of a device's buffers. -/
def launch (d : Dev nD) : Valuation τ sig (Elt F) := fun b => m (d, b)

/-- The arrays of the call among the host's buffers. -/
abbrev arrays : Finset (DevRef τ sig) :=
  {Proc.devRef .tc (main_arg0 : Ref sig .tc), Proc.devRef .tc (main_arg1 : Ref sig .tc), Proc.devRef .tc (main_v0 : Ref sig .tc), Proc.devRef .tc (main_v1 : Ref sig .tc)}

omit [FloatOps F] in
theorem held_arrays (d : Dev nD) (W : Valuation τ sig (Elt F)) :
    (held (d.tc : Thread nD τ) arrays W : sProp (MM F))
      = iprop((dLoc d ↦{fullShare} W (Proc.devRef .tc main_arg0)) ∗ (sLoc d ↦{fullShare} W (Proc.devRef .tc main_arg1))
          ∗ (uLoc d ↦{fullShare} W (Proc.devRef .tc main_v0)) ∗ oLoc d ↦{fullShare} W (Proc.devRef .tc main_v1)) := by
  unfold held arrays
  rw [SparseCore.bigSep_insert' (by decide), SparseCore.bigSep_insert' (by decide), SparseCore.bigSep_insert' (by decide), bigSep_singleton]

theorem arrays_sub : arrays ⊆ Pipeline.ucRefs τ sig := by
  intro b hb
  simp only [arrays, Finset.mem_insert, Finset.mem_singleton] at hb
  rcases hb with rfl | rfl | rfl | rfl <;>
    exact Finset.mem_filter.mpr ⟨StableHlo.devRef_mem_tcRefs _, by decide⟩

/-- What the host's thread leaves: the inputs as they were, the result computed. -/
abbrev FIN (d : Dev nD) : sProp (MM F) :=
  iprop((dLoc d ↦{fullShare} m (dLoc d)) ∗ (sLoc d ↦{fullShare} m (sLoc d)) ∗ (oLoc d ↦{fullShare} final m d))

theorem st_eq (d : Dev nD) : (bigSep Finset.univ fun c : Fin ((K (F := F)).nCore 0) => (P m).st 0 d c) = tasks d (depths m d) (dists m d) positions (m (oLoc d)) := rfl
theorem dn_eq (d : Dev nD) : (bigSep Finset.univ fun c : Fin ((K (F := F)).nCore 0) => (P m).dn 0 d c) = tasks d (depths m d) (dists m d) positions (final m d) := rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp (MM F)) = held (d.tc : Thread nD τ) (Pipeline.ucRefs τ sig) (launch m d) from
    Pipeline.unscopedBufs_held d (launch m d), main_eq]
  iintro ⟨#Hctx, Hst, ⟨Hb, Hheld, Hts, -⟩, -⟩
  iapply (wp_seq 𝒱 none Set.univ d (Pipeline.ucRefs τ sig) _ ops (fun op h => Pipeline.sub_ucRefs op (List.forall_iff_forall_mem.mp ops_sub op h)) ops_fresh (launch m d)) $$ [Hb Hheld]
  · isplitl [Hb]; · iexact Hb
    iexact Hheld
  iintro ⟨Hb, Hheld⟩
  ihave Hheld' := (Entails.of_eq (held_sub_split (d.tc : Thread nD τ) arrays_sub (after ops (launch m d)))) $$ Hheld
  icases Hheld' with ⟨Ha, -⟩
  ihave Ha' := (Entails.of_eq (held_arrays d (after ops (launch m d)))) $$ Ha
  rw [after_positions, after_keep _ main_arg0 (by decide), after_keep _ main_arg1 (by decide), after_keep _ main_v1 (by decide)]
  rw [show launch m d (Proc.devRef .tc main_arg0) = m (dLoc d) from rfl, show launch m d (Proc.devRef .tc main_arg1) = m (sLoc d) from rfl,
    show launch m d (Proc.devRef .tc main_v1) = m (oLoc d) from rfl]
  icases Ha' with ⟨Hd, Hs, Hu, Ho⟩
  ihave Hd' := ((shares (ℓ := dLoc d) (m (dLoc d))).1) $$ Hd
  ihave Hs' := ((shares (ℓ := sLoc d) (m (sLoc d))).1) $$ Hs
  ihave Hu' := ((shares (F := F) (ℓ := uLoc d) positions).1) $$ Hu
  icases Hd' with ⟨Hd0, Hd⟩
  icases Hs' with ⟨Hs0, Hs⟩
  icases Hu' with ⟨-, Hu⟩
  rw [wp_bind]
  iapply ((K (F := F)).wp_run (D (F := F)) 𝒱 (EH := EH) (P := P m) κ d 0) $$ [Hst Hd Hs Hu Ho Hb Hts Hd0 Hs0]
  isplitr; · iexact Hctx
  isplitl [Hst]; · iexact Hst
  isplitl [Hd Hs Hu Ho]
  · rw [st_eq, tasks_eq]
    isplitl [Hd]; · iexact Hd
    isplitl [Hs]; · iexact Hs
    isplitl [Hu]; · iexact Hu
    iexact Ho
  iintro ⟨Hst, Hdn⟩
  ihave Hdn' := (Entails.of_eq ((dn_eq m d).trans (tasks_eq d _ _ _ _))) $$ Hdn
  icases Hdn' with ⟨Hd, Hs, -, Ho⟩
  rw [wp_pure]
  imodintro
  isplitl [Hst]; · iexact Hst
  isplitr [Hb Hts]
  · isplitl [Hd Hd0]
    · iapply ((shares (ℓ := dLoc d) (m (dLoc d))).2)
      isplitl [Hd0] <;> iassumption
    isplitl [Hs Hs0]
    · iapply ((shares (ℓ := sLoc d) (m (sLoc d))).2)
      isplitl [Hs0] <;> iassumption
    iexact Ho
  isplitl [Hb] <;> iassumption

/-! ## The program's run -/

/-- What a device's memory holds at the end. -/
def fq (d : Dev nD) (s' : Phys nD τ sig (Elt F)) : Prop :=
  s'.mem.mem (oLoc d) = final m d ∧ s'.mem.mem (dLoc d) = m (dLoc d) ∧ s'.mem.mem (sLoc d) = m (sLoc d)

theorem hfin (d : Dev nD) (s' : Phys nD τ sig (Elt F)) : iprop(FIN m d ∗ SI s') ⊢ (⌜fq m d s'⌝ : sProp (MM F)) := by
  iintro ⟨⟨Hd, Hs, Ho⟩, HSI⟩
  ihave H := (persistent_entails_right (SI_pointsTo_agree (st := s') (ℓ := dLoc d) (I := Finset.univ) (q := fullShare) (f := m (dLoc d)))) $$ [HSI Hd]
  · isplitl [HSI] <;> iassumption
  icases H with ⟨%h1, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%h2, HSI, -⟩
  ihave H := (SI_pointsTo_agree (st := s') (ℓ := oLoc d) (I := Finset.univ) (q := fullShare) (f := final m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

def QC : PUnit × MemSt nD τ sig (Elt F) → Prop := fun r =>
  (∀ d : Dev nD, r.2.mem (oLoc d) = final m d ∧ r.2.mem (dLoc d) = m (dLoc d) ∧ r.2.mem (sLoc d) = m (sLoc d)) ∧ r.2.sem = fun _ => 0

/-- The program ends, its inputs as they were, its result `final`, every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Hand

end
-- ==== Proof.Frames.lean ====
/- Every program of the certificate ends, leaves its arguments as they were, and leaves every semaphore at zero. -/
module

public import proofs.«01_k».proof.Defs
public import proofs.«01_k».proof.Proof.Gen.Kernel
public import proofs.«01_k».proof.Proof.Gen.Pre_depths_increase
public import proofs.«01_k».proof.Proof.Gen.ReferenceIdeal.Run
public import proofs.«01_k».proof.Proof.Launch
public import Idealize.ShloMosaic.Init

@[expose] public section

noncomputable section

namespace Cert.Proof

open Idealize.ShloMosaic Idealize.SL.Sem Cert.KernelIdeal.Hand

/-- The kernel at its own float words. -/
theorem frame_kernel : Cert.quiescent_Kernel := fun m ρ _ =>
  (θ_run Cert.KernelIdeal.defs _ _).mono (fun _ h => ⟨fun c => (h.1 c).2, h.2⟩) (run_main (F := Bits) m ρ)

/-- The kernel over the extended reals, from any memory. -/
theorem run_ideal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (Cert.KernelIdeal.threads (F := Ideal)) ⟨m, fun _ => 0, ρ⟩ (QC m) := run_main (F := Ideal) m ρ

/-- The kernel over the extended reals ends, its inputs as they were, every semaphore at zero. -/
theorem frame_kernelIdeal : Cert.quiescent_KernelIdeal := fun m ρ _ =>
  (θ_run Cert.KernelIdeal.defs _ _).mono (fun _ h => ⟨fun c => (h.1 c).2, h.2⟩) (run_ideal m ρ)

/-- The same from memories that meet the precondition. -/
theorem frame_kernelIdeal_pre : Cert.quiescent_KernelIdeal_pre_depths_increase := fun m ρ _ =>
  frame_kernelIdeal m ρ trivial

/-- The reference: it names no semaphore, so all of them stay at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from memories that meet the precondition. -/
theorem frame_reference_pre : Cert.quiescent_ReferenceIdeal_pre_depths_increase := fun m ρ _ =>
  frame_reference m ρ trivial

/-- The ideal program is the kernel's own text, with no operation rewritten. -/
theorem preserves : Cert.preserves_Kernel_KernelIdeal := trivial

end Cert.Proof

end
-- ==== Proof.Math.lean ====
/- The mathematics the kernel and the reference share, over the extended reals: the density of a signed distance, the
   running sum and the cumulative table of one ray, and the depth interpolated at a place of it. The table does not
   decrease along a ray whose depths do not, so the binary search ends at the number of entries below the position. -/
module

public import Idealize.ShloMosaic.PureOps.Ideal
public import proofs.«01_k».proof.Proof.Spec

@[expose] public section

noncomputable section

namespace Cert.Ray

open Idealize.ShloMosaic Cert.KernelIdeal.Hand

/-! ## One ray -/

/-- Half of `exp (-|s| / β)` at `β = 1 / 10`. -/
def tail (s : EReal) : EReal := ((1 / 2 : ℝ) : EReal) * Ideal.exp (-(max s (-s)) * ((10 : ℝ) : EReal))

/-- The density of the signed distance `s`. -/
def density (s : EReal) : EReal := ((10 : ℝ) : EReal) * (if 0 ≤ s then tail s else 1 - tail s)

/-- The sum of density times length over the samples before sample `i`. -/
def run (d s : Nat → EReal) : Nat → EReal
  | 0 => 0
  | i + 1 => run d s i + density (s i) * (d (i + 1) - d i)

/-- Entry `i` of the cumulative table. -/
def cdf (d s : Nat → EReal) (i : Nat) : EReal := 1 - Ideal.exp (-(run d s i))

/-- The interpolation between two table entries `c0`, `c1` and the depths `b0`, `b1` there; `e` is the least width
    divided by. -/
def between (e u c0 c1 b0 b1 : EReal) : EReal := b0 + Ideal.div (u - c0) (if c1 - c0 < e then 1 else c1 - c0) * (b1 - b0)

/-- The depth at the position `u` when `c` entries of the table lie below it. -/
def sampled (e : EReal) (d s : Nat → EReal) (u : EReal) (c : Nat) : EReal :=
  between e u (cdf d s (c - 1)) (cdf d s (min c 126)) (d (c - 1)) (d (min c 126))

/-! ## Order -/

/-- The exponential is not negative. -/
theorem exp_nonneg (x : EReal) : 0 ≤ Ideal.exp x := by
  induction x with
  | bot => exact le_refl _
  | top => exact le_top
  | coe r => exact EReal.coe_nonneg.mpr (Real.exp_pos r).le

/-- The exponential does not decrease. -/
theorem exp_le {x y : EReal} (h : x ≤ y) : Ideal.exp x ≤ Ideal.exp y := by
  induction x with
  | bot => exact exp_nonneg y
  | top => rw [top_le_iff.mp h]
  | coe r =>
    induction y with
    | bot => exact absurd h (by simp)
    | top => exact le_top
    | coe t => exact EReal.coe_le_coe_iff.mpr (Real.exp_le_exp.mpr (EReal.coe_le_coe_iff.mp h))

/-- It is at most one where its argument is not positive. -/
theorem exp_le_one {x : EReal} (h : x ≤ 0) : Ideal.exp x ≤ 1 := by
  have := exp_le h
  have e : Ideal.exp 0 = 1 := by
    show Ideal.exp ((0 : ℝ) : EReal) = 1
    rw [Ideal.exp_coe, Real.exp_zero]; rfl
  rwa [e] at this

/-- The half exponential is not negative. -/
theorem tail_nonneg (s : EReal) : 0 ≤ tail s :=
  mul_nonneg (EReal.coe_nonneg.mpr (by norm_num)) (exp_nonneg _)

/-- The half exponential is at most one. -/
theorem tail_le_one (s : EReal) : tail s ≤ 1 := by
  have h0 : (0 : EReal) ≤ max s (-s) := by
    rcases le_total 0 s with h | h
    · exact h.trans (le_max_left _ _)
    · exact (EReal.neg_nonneg.mpr h).trans (le_max_right _ _)
  have h1 : -(max s (-s)) * ((10 : ℝ) : EReal) ≤ 0 := by
    rw [EReal.neg_mul]
    rw [← neg_zero]
    exact EReal.neg_le_neg_iff.mpr (mul_nonneg h0 (EReal.coe_nonneg.mpr (by norm_num)))
  calc tail s ≤ ((1 / 2 : ℝ) : EReal) * 1 :=
        mul_le_mul_of_nonneg_left (exp_le_one h1) (EReal.coe_nonneg.mpr (by norm_num))
    _ ≤ 1 := by
        rw [mul_one]
        exact_mod_cast (by norm_num : (1 / 2 : ℝ) ≤ 1)

/-- The density is not negative. -/
theorem density_nonneg (s : EReal) : 0 ≤ density s := by
  refine mul_nonneg (EReal.coe_nonneg.mpr (by norm_num)) ?_
  split
  · exact tail_nonneg s
  · exact (EReal.sub_nonneg (Or.inl (EReal.coe_ne_top 1)) (Or.inl (EReal.coe_ne_bot 1))).mpr (tail_le_one s)

variable {d s : Nat → EReal}

/-- The running sum does not decrease from one sample to the next. -/
theorem run_le_succ (h : ∀ j < 127, 0 ≤ d (j + 1) - d j) {i : Nat} (hi : i < 127) : run d s i ≤ run d s (i + 1) :=
  le_add_of_nonneg_right (mul_nonneg (density_nonneg _) (h i hi))

/-- Nor does the table. -/
theorem cdf_le_succ (h : ∀ j < 127, 0 ≤ d (j + 1) - d j) {i : Nat} (hi : i < 127) : cdf d s i ≤ cdf d s (i + 1) :=
  EReal.sub_le_sub (le_refl _) (exp_le (EReal.neg_le_neg_iff.mpr (run_le_succ h hi)))

/-- The table does not decrease. -/
theorem cdf_mono (h : ∀ j < 127, 0 ≤ d (j + 1) - d j) {i j : Nat} (hij : i ≤ j) (hj : j ≤ 127) : cdf d s i ≤ cdf d s j := by
  induction j, hij using Nat.le_induction with
  | base => exact le_refl _
  | succ j _ ih => exact (ih (by omega)).trans (cdf_le_succ h (by omega))

/-! ## The search -/

/-- Of a predicate that holds on an initial part of the places below `n`, that part's length. -/
theorem exists_bound (P : Nat → Prop) : ∀ n : Nat, (∀ i j, i ≤ j → j < n → P j → P i) → ∃ c ≤ n, ∀ j < n, P j ↔ j < c
  | 0, _ => ⟨0, le_refl _, fun j hj => absurd hj (Nat.not_lt_zero j)⟩
  | n + 1, h => by
      obtain ⟨c, hc, hP⟩ := exists_bound P n fun i j hij hj => h i j hij (by omega)
      by_cases hn : P n
      · exact ⟨n + 1, le_refl _, fun j hj => ⟨fun _ => hj, fun _ => h j n (by omega) (by omega) hn⟩⟩
      · refine ⟨c, by omega, fun j hj => ?_⟩
        rcases Nat.lt_succ_iff_lt_or_eq.mp hj with h' | rfl
        · exact hP j h'
        · exact ⟨fun q => absurd q hn, fun q => absurd q (by omega)⟩

/-- Such a part's length is the number of places where the predicate holds. -/
theorem card_of_bound (P : Nat → Prop) [DecidablePred P] {n c : Nat} (hc : c ≤ n) (hP : ∀ j < n, P j ↔ j < c) :
    (Finset.univ.filter fun k : Fin n => P k.val).card = c := by
  have e : (Finset.univ.filter fun k : Fin n => P k.val) = (Finset.univ : Finset (Fin c)).map (Fin.castLEEmb hc) := by
    ext k
    simp only [Finset.mem_filter, Finset.mem_univ, true_and, Finset.mem_map]
    rw [hP k.val k.isLt]
    exact ⟨fun h => ⟨⟨k.val, h⟩, rfl⟩, fun ⟨a, ha⟩ => by rw [← ha]; exact a.isLt⟩
  rw [e, Finset.card_map, Finset.card_univ, Fintype.card_fin]

/-- The binary search among 127 entries ends at the first entry that is not below. -/
theorem seek_eq (p : Nat → Bool) {c : Nat} (hp : ∀ j < 127, p j = true ↔ j < c) :
    ∀ (k a : Nat), a + 2 ^ k ≤ 128 → a ≤ c → c + 1 ≤ a + 2 ^ k → seek p k a = c
  | 0, a, _, h1, h2 => by
      show a = c
      rw [Nat.pow_zero] at h2
      omega
  | k + 1, a, h0, h1, h2 => by
      have hk : 0 < 2 ^ k := Nat.two_pow_pos k
      rw [Nat.pow_succ] at h0 h2
      have hpj := hp (a + 2 ^ k - 1) (by omega)
      show seek p k (if p (a + 2 ^ k - 1) then a + 2 ^ k else a) = c
      split
      · next h => exact seek_eq p hp k _ (by omega) (by have := hpj.mp h; omega) (by omega)
      · next h => exact seek_eq p hp k _ (by omega) h1 (by have : ¬ a + 2 ^ k - 1 < c := fun q => h (hpj.mpr q); omega)

/-- On a ray whose depths do not decrease the search finds the number of table entries below the position. -/
theorem seek_cdf (h : ∀ j < 127, 0 ≤ d (j + 1) - d j) (u : EReal) :
    seek (fun j => decide (cdf d s j < u)) 7 0 = (Finset.univ.filter fun k : Fin 127 => cdf d s k.val < u).card := by
  obtain ⟨c, hc, hP⟩ := exists_bound (fun j => cdf d s j < u) 127
    fun i j hij hj hu => lt_of_le_of_lt (cdf_mono h hij (by omega)) hu
  rw [card_of_bound _ hc hP]
  exact seek_eq _ (fun j hj => by rw [decide_eq_true_iff]; exact hP j hj) 7 0 (by norm_num) (Nat.zero_le c) (by omega)

end Cert.Ray

end
-- ==== Proof.Words.lean ====
/- The float words of the two programs as extended reals. -/
module

public import Idealize.ShloMosaic.PureOps.Ideal.Laws
public import Idealize.ShloMosaic.Lib.IdealHost

@[expose] public section

noncomputable section

namespace Cert.Ray

open Idealize.ShloMosaic

/-- The word of zero. -/
theorem word_zero : (FloatOps.ofBits (F := Ideal) .f32 0x00000000#32 : EReal) = 0 := by
  show Ideal.ofBits .f32 0x00000000#32 = 0
  exact Ideal.ofBits_zero_f32

/-- The word of one. -/
theorem word_one : (FloatOps.ofBits (F := Ideal) .f32 0x3F800000#32 : EReal) = 1 := by
  show Ideal.ofBits .f32 0x3F800000#32 = 1
  exact Ideal.ofBits_one_f32

/-- The word of ten. -/
theorem word_ten : (FloatOps.ofBits (F := Ideal) .f32 0x41200000#32 : EReal) = ((10 : ℝ) : EReal) := by
  show Ideal.ieee 8 23 0x41200000#32 = _
  have hs : ((0x41200000#32 : BitVec 32).extractLsb' 31 1 == 1#1) = false := by decide
  have he : ((0x41200000#32 : BitVec 32).extractLsb' 23 8).toNat = 130 := by decide
  have hf : ((0x41200000#32 : BitVec 32).extractLsb' 0 23).toNat = 2097152 := by decide
  unfold Ideal.ieee
  simp only [show 8 + 23 = 31 from rfl, hs, he, hf]
  norm_num

/-- The word of one half. -/
theorem word_half : (FloatOps.ofBits (F := Ideal) .f32 0x3F000000#32 : EReal) = ((1 / 2 : ℝ) : EReal) := by
  show Ideal.ieee 8 23 0x3F000000#32 = _
  have hs : ((0x3F000000#32 : BitVec 32).extractLsb' 31 1 == 1#1) = false := by decide
  have he : ((0x3F000000#32 : BitVec 32).extractLsb' 23 8).toNat = 126 := by decide
  have hf : ((0x3F000000#32 : BitVec 32).extractLsb' 0 23).toNat = 0 := by decide
  unfold Ideal.ieee
  simp only [show 8 + 23 = 31 from rfl, hs, he, hf]
  norm_num

/-- The least width divided by, as its word's value. -/
def eps : EReal := FloatOps.ofBits (F := Ideal) .f32 0x3727C5AC#32

/-- Dividing by the quotient of one by ten is multiplying by ten. -/
theorem div_tenth (x : EReal) : Ideal.div x (Ideal.div 1 ((10 : ℝ) : EReal)) = x * ((10 : ℝ) : EReal) := by
  rw [Ideal.div_coe (by norm_num : (10 : ℝ) ≠ 0), one_mul, Ideal.div_coe (by norm_num : (1 / 10 : ℝ) ≠ 0)]
  norm_num

end Cert.Ray

end
-- ==== Proof.Read.lean ====
/- The kernel's result read at an index over the extended reals: the depth sampled on the index's ray. -/
module

public import proofs.«01_k».proof.Proof.Math
public import proofs.«01_k».proof.Proof.Words

@[expose] public section

noncomputable section

namespace Cert.Ray

open Cert.KernelIdeal Cert.KernelIdeal.Gen Cert.KernelIdeal.Hand Idealize.ShloMosaic

/-- Ray `r` of an array of rays. -/
def row (A : Vec Ideal S65536x128 .f32) (r : Fin 65536) (j : Nat) : EReal :=
  A (ix2 (n0 := 65536) (n1 := 128) r (Fin.ofNat 128 j))

/-- Ray `x` of a block of sixteen. -/
def blockRow (A : Vec Ideal S16x128 .f32) (x : S16.Idx) (j : Nat) : EReal := sample A j x

/-- One step of the kernel's running sum. -/
theorem pay3_read (t b n s : Vec Ideal S16 .f32) (x : S16.Idx) :
    k0_pay3 (F := Ideal) t b n s x = (t x : EReal) + density (s x) * ((n x : EReal) - b x) := by
  show (t x : EReal) + FloatOps.ofBits (F := Ideal) .f32 0x41200000#32
      * (if BitVec.ofBool (decide ((FloatOps.ofBits (F := Ideal) .f32 0x00000000#32 : EReal) ≤ s x)) = 1#1
        then FloatOps.ofBits (F := Ideal) .f32 0x3F000000#32
          * Ideal.exp ((FloatOps.ofBits (F := Ideal) .f32 0x00000000#32 - max (s x : EReal) (-(s x : EReal)))
            * FloatOps.ofBits (F := Ideal) .f32 0x41200000#32)
        else FloatOps.ofBits (F := Ideal) .f32 0x3F800000#32 - FloatOps.ofBits (F := Ideal) .f32 0x3F000000#32
          * Ideal.exp ((FloatOps.ofBits (F := Ideal) .f32 0x00000000#32 - max (s x : EReal) (-(s x : EReal)))
            * FloatOps.ofBits (F := Ideal) .f32 0x41200000#32)) * ((n x : EReal) - b x) = _
  rw [word_zero, word_one, word_ten, word_half, zero_sub]
  by_cases h : (0 : EReal) ≤ s x
  · simp [density, tail, h]
  · simp [density, tail, h]

/-- The kernel's running sum is the ray's. -/
theorem total_read (D S : Vec Ideal S16x128 .f32) (x : S16.Idx) :
    ∀ i, total (F := Ideal) D S i x = run (blockRow D x) (blockRow S x) i
  | 0 => word_zero
  | i + 1 => by
      show k0_pay3 (F := Ideal) (total D S i) (sample D i) (sample D (i + 1)) (sample S i) x = _
      rw [pay3_read, total_read D S x i]
      rfl

/-- The kernel's table is the ray's. -/
theorem entry_read (D S : Vec Ideal S16x128 .f32) (i : Nat) (x : S16.Idx) :
    entry (F := Ideal) D S i x = cdf (blockRow D x) (blockRow S x) i := by
  show (FloatOps.ofBits (F := Ideal) .f32 0x3F800000#32 : EReal)
    - Ideal.exp (FloatOps.ofBits (F := Ideal) .f32 0x00000000#32 - total (F := Ideal) D S i x) = _
  rw [word_one, word_zero, zero_sub, total_read]
  rfl

/-- The kernel's place is where the binary search of the ray's table ends. -/
theorem place_read (D S : Vec Ideal S16x128 .f32) (u : EReal) (x : S16.Idx) :
    place (F := Ideal) D S u x = seek (fun j => decide (cdf (blockRow D x) (blockRow S x) j < u)) 7 0 := by
  unfold place
  congr 1
  funext j
  show (BitVec.ofBool (decide ((entry (F := Ideal) D S j x : EReal) < u))).getLsbD 0 = _
  rw [entry_read]
  cases decide (cdf (blockRow D x) (blockRow S x) j < u) <;> rfl

/-- The kernel's interpolation. -/
theorem pay5_read (u c0 c1 b0 b1 : Vec Ideal S16 .f32) (x : S16.Idx) :
    k0_pay5 (F := Ideal) u c0 c1 b0 b1 x = between eps (u x) (c0 x) (c1 x) (b0 x) (b1 x) := by
  show (b0 x : EReal) + Ideal.div ((u x : EReal) - c0 x)
    (if BitVec.ofBool (decide ((c1 x : EReal) - c0 x < eps)) = 1#1 then FloatOps.ofBits (F := Ideal) .f32 0x3F800000#32
      else (c1 x : EReal) - c0 x) * ((b1 x : EReal) - b0 x) = _
  rw [word_one]
  by_cases h : (c1 x : EReal) - c0 x < eps
  · simp [between, h]
  · simp [between, h]

/-- A block's ray is the whole array's. -/
theorem blockRow_rows (A : Vec Ideal S65536x128 .f32) (r : Fin 65536) :
    blockRow (blockRows A r.val) (ix1 (n0 := 16) (Fin.ofNat 16 r.val)) = row A r := by
  funext j
  have e : Fin.ofNat 65536 (16 * (r.val / 16) + r.val % 16) = r := by
    rw [Nat.div_add_mod]
    exact Fin.ext (Nat.mod_eq_of_lt r.isLt)
  show A (ix2 (n0 := 65536) (n1 := 128) (Fin.ofNat 65536 (16 * (r.val / 16) + r.val % 16)) (Fin.ofNat 128 j)) = _
  rw [e]
  rfl

/-- The kernel's result at ray `r` and position `q`. -/
theorem result_read (D S : Vec Ideal S65536x128 .f32) (U : Vec Ideal S64 .f32) (r : Fin 65536) (q : Fin 64) :
    result (F := Ideal) D S U (ix2 (n0 := 65536) (n1 := 64) r q)
      = sampled eps (row D r) (row S r) (U (ix1 (n0 := 64) q))
        (seek (fun j => decide (cdf (row D r) (row S r) j < U (ix1 (n0 := 64) q))) 7 0) := by
  have hq : position U q.val = U (ix1 (n0 := 64) q) :=
    congrArg (fun k => U (ix1 (n0 := 64) k)) (Fin.ext (Nat.mod_eq_of_lt q.isLt))
  show depthAt (F := Ideal) (blockRows D r.val) (blockRows S r.val) (position U q.val) (ix1 (n0 := 16) (Fin.ofNat 16 r.val)) = _
  rw [hq]
  unfold depthAt
  rw [pay5_read, entry_read, entry_read, place_read, blockRow_rows, blockRow_rows]
  have hs : ∀ j, sample (F := Ideal) (blockRows D r.val) j (ix1 (n0 := 16) (Fin.ofNat 16 r.val)) = row D r j :=
    fun j => congrFun (blockRow_rows D r) j
  rw [hs, hs]
  rfl

end Cert.Ray

end
-- ==== Proof.Sums.lean ====
/- A running sum along the rows of an array, which the host prints as sums over windows of the array padded in front,
   read at an entry. -/
module

public import Idealize.ShloMosaic.PureOps.Ideal.Laws
public import Idealize.ShloMosaic.Lib.Pointwise.Index
public import Mathlib.Algebra.BigOperators.Fin
public import Mathlib.Algebra.BigOperators.Intervals

@[expose] public section

noncomputable section

namespace Cert.Ray

open Idealize.ShloMosaic

/-- Adding the terms of a list one after the other from zero gives their sum. -/
theorem foldl_add (N : Nat) (g : Fin N → EReal) : (List.finRange N).foldl (fun r n => r + g n) 0 = ∑ n, g n := by
  rw [Fin.sum_univ_def, List.sum_eq_foldl, List.foldl_map]

/-- Of a window of `K + 1` places that ends at place `j`, the places before the first count nothing. -/
theorem window_sum (X : Nat → EReal) {K j : Nat} (hj : j ≤ K) :
    ∑ w ∈ Finset.range (K + 1), (if K ≤ j + w then X (j + w - K) else 0) = ∑ i ∈ Finset.range (j + 1), X i := by
  obtain ⟨e, rfl⟩ : ∃ e, K = j + e := ⟨K - j, by omega⟩
  rw [show j + e + 1 = e + (j + 1) by omega, Finset.sum_range_add, Finset.sum_eq_zero, zero_add]
  · refine Finset.sum_congr rfl fun i _ => ?_
    rw [if_pos (by omega), show j + (e + i) - (j + e) = i by omega]
  · intro w hw
    exact if_neg (by have := Finset.mem_range.mp hw; omega)

/-- The number of places of a window of one row. -/
theorem numel_row (N : Nat) : (⟨2, ![1, N]⟩ : Shape).numel = N := by
  show ∏ a : Fin 2, (![1, N] : Fin 2 → Nat) a = N
  rw [Fin.prod_univ_two]
  exact Nat.one_mul N

/-- Place `n` of such a window has the coordinates `0` and `n`. -/
theorem symm_row {N : Nat} (n : Fin (⟨2, ![1, N]⟩ : Shape).numel) :
    (⟨2, ![1, N]⟩ : Shape).rowMajor.symm n = ix2 (n0 := 1) (n1 := N) 0 (n.cast (numel_row N)) := by
  rw [Equiv.symm_apply_eq]
  refine Fin.ext ?_
  rw [Shape.rowMajor_val_two]
  show n.val = 0 * N + n.val
  omega

/-- The running sum along the rows: entry `(r, j)` is the sum of the row's entries up to `j`. -/
theorem running {R K : Nat} (x : Vec Ideal ⟨2, ![R, K + 1]⟩ .f32) (init : Vec Ideal ⟨0, ![]⟩ .f32)
    (h : (⟨2, ![R, K + 1]⟩ : Shape).ReduceWindows (![1, K + 1] : Fin 2 → Nat) ![1, 1] ![0, K] ![0, 0] ⟨2, ![R, K + 1]⟩)
    (hu : 0 < (⟨0, ![]⟩ : Shape).numel) (hv : init (Shape.Idx.first hu) = (0 : EReal)) (X : Nat → EReal) (r : Fin R)
    (hX : ∀ i : Fin (K + 1), x (ix2 r i) = X i.val) (j : Fin (K + 1)) :
    Host.reduceWindowAdd (F := Ideal) (φ := .f32) ![1, K + 1] ![1, 1] ![0, K] ![0, 0] x init h hu (ix2 r j)
      = ∑ i ∈ Finset.range (j.val + 1), X i := by
  have hj := j.isLt
  have hr := r.isLt
  rw [← window_sum X (Nat.lt_succ_iff.mp hj)]
  show Ideal.hostReduceWindowAdd _ _ _ _ h x (init (Shape.Idx.first hu)) (ix2 r j) = _
  rw [hv]
  have hN : (⟨2, ![1, K + 1]⟩ : Shape).numel = K + 1 := numel_row (K + 1)
  have key : ∀ n : Fin (⟨2, ![1, K + 1]⟩ : Shape).numel,
      (if hin : ∀ a : Fin 2, (![0, K] : Fin 2 → Nat) a ≤ (ix2 r j (a.cast h.1.symm)).val * (![1, 1] : Fin 2 → Nat) a + ((⟨2, ![1, K + 1]⟩ : Shape).rowMajor.symm n a).val
          ∧ (ix2 r j (a.cast h.1.symm)).val * (![1, 1] : Fin 2 → Nat) a + ((⟨2, ![1, K + 1]⟩ : Shape).rowMajor.symm n a).val - (![0, K] : Fin 2 → Nat) a < (⟨2, ![R, K + 1]⟩ : Shape).size a
        then (x (fun a => ⟨_, (hin a).2⟩) : EReal) else 0) = if K ≤ j.val + n.val then X (j.val + n.val - K) else 0 := by
    intro n
    have hn : n.val < K + 1 := (n.cast hN).isLt
    rw [symm_row]
    split
    · next hin =>
      have h1 : K ≤ j.val * 1 + n.val ∧ j.val * 1 + n.val - K < K + 1 := hin 1
      rw [if_pos (by omega)]
      refine Eq.trans (congrArg x (funext fun a => Fin.ext ?_)) (hX ⟨j.val + n.val - K, by omega⟩)
      match a with
      | 0 => show r.val * 1 + 0 - 0 = r.val; omega
      | 1 => show j.val * 1 + n.val - K = j.val + n.val - K; omega
    · next hin =>
      rw [if_neg fun hK => hin fun a => ?_]
      match a with
      | 0 => show 0 ≤ r.val * 1 + 0 ∧ r.val * 1 + 0 - 0 < R; omega
      | 1 => show K ≤ j.val * 1 + n.val ∧ j.val * 1 + n.val - K < K + 1; omega
  refine (foldl_add _ _).trans ((Finset.sum_congr rfl fun n _ => key n).trans ?_)
  rw [Fin.sum_univ_eq_sum_range (fun w => if K ≤ j.val + w then X (j.val + w - K) else 0)]
  rw [hN]

end Cert.Ray

end
-- ==== Proof.RefTable.lean ====
/- The reference's cumulative table and its sample positions, read at an entry over the extended reals. -/
module

public import proofs.«01_k».proof.Proof.Gen.ReferenceIdeal.Run
public import proofs.«01_k».proof.Proof.Read
public import proofs.«01_k».proof.Proof.Sums
public import proofs.«01_k».proof.Proof.Host
public import Idealize.ShloMosaic.Lib.Pipeline.Value

@[expose] public section

noncomputable section

namespace Cert.Ray

open Cert.ReferenceIdeal Cert.ReferenceIdeal.Gen Cert.ReferenceIdeal.Value Idealize.ShloMosaic Idealize.SL.Sem

/-- The running sum as a sum over the samples. -/
theorem run_eq_sum (d s : Nat → EReal) : ∀ i, Ray.run d s i = ∑ k ∈ Finset.range i, density (s k) * (d (k + 1) - d k)
  | 0 => rfl
  | i + 1 => by
      rw [Finset.sum_range_succ, ← run_eq_sum d s i]
      rfl

/-- The reference's depths. -/
abbrev depthsOf (V : Valuation τ sig (Elt Ideal)) : Vec Ideal S65536x128 .f32 := V (Proc.devRef .tc main_arg0)

/-- The reference's signed distances. -/
abbrev distsOf (V : Valuation τ sig (Elt Ideal)) : Vec Ideal S65536x128 .f32 := V (Proc.devRef .tc main_arg1)

variable (V : Valuation τ sig (Elt Ideal))

/-- The reference's half exponential at an entry. -/
theorem v8_read (x : S65536x128.Idx) : res_main_v8 (F := Ideal) V x = tail (distsOf V x) := by
  show (FloatOps.ofBits (F := Ideal) .f32 0x3F000000#32 : EReal)
    * Ideal.exp (Ideal.div (-(max (distsOf V x : EReal) (-(distsOf V x : EReal))))
      (Ideal.div (FloatOps.ofBits (F := Ideal) .f32 0x3F800000#32) (FloatOps.ofBits (F := Ideal) .f32 0x41200000#32))) = _
  rw [word_half, word_one, word_ten, div_tenth]
  rfl

/-- Ten times the reference's choice between the half exponential and its complement. -/
def weights : Vec Ideal S65536x128 .f32 :=
  mulf (F := Ideal) (φ := .f32) (broadcastInDim S65536x128 ![] bcast_S_S65536x128 (constant (F := Ideal) S_ .f32 0x41200000#32))
    (select (cmpf (F := Ideal) (φ := .f32) .oge (distsOf V) (broadcastInDim S65536x128 ![] bcast_S_S65536x128 (constant (F := Ideal) S_ .f32 0x00000000#32)))
      (res_main_v8 (F := Ideal) V)
      (subf (F := Ideal) (φ := .f32) (broadcastInDim S65536x128 ![] bcast_S_S65536x128 (constant (F := Ideal) S_ .f32 0x3F800000#32)) (res_main_v8 (F := Ideal) V)))

/-- The terms the reference sums: density times length. -/
def terms : Vec Ideal S65536x127 .f32 :=
  mulf (F := Ideal) (φ := .f32) (extractStridedSlice S65536x127 ![0, 0] (weights V) slices_S65536x128_S65536x127_0_0)
    (subf (F := Ideal) (φ := .f32) (extractStridedSlice S65536x127 ![0, 1] (depthsOf V) slices_S65536x128_S65536x127_0_1)
      (extractStridedSlice S65536x127 ![0, 0] (depthsOf V) slices_S65536x128_S65536x127_0_0))

/-- The weight of a sample is its density. -/
theorem weights_read (x : S65536x128.Idx) : weights V x = density (distsOf V x) := by
  show (FloatOps.ofBits (F := Ideal) .f32 0x41200000#32 : EReal)
    * (if BitVec.ofBool (decide ((FloatOps.ofBits (F := Ideal) .f32 0x00000000#32 : EReal) ≤ distsOf V x)) = 1#1
      then res_main_v8 (F := Ideal) V x
      else FloatOps.ofBits (F := Ideal) .f32 0x3F800000#32 - res_main_v8 (F := Ideal) V x) = _
  rw [v8_read, word_ten, word_zero, word_one]
  by_cases h : (0 : EReal) ≤ distsOf V x
  · simp [density, h]
  · simp [density, h]

/-- A term at an entry. -/
theorem terms_read (r : Fin 65536) (j : Fin 127) :
    terms V (ix2 (n0 := 65536) (n1 := 127) r j) = density (row (distsOf V) r j.val)
      * (row (depthsOf V) r (j.val + 1) - row (depthsOf V) r j.val) := by
  have hj := j.isLt
  have e0 : ∀ x : Vec Ideal S65536x128 .f32, extractStridedSlice S65536x127 ![0, 0] x slices_S65536x128_S65536x127_0_0
      (ix2 (n0 := 65536) (n1 := 127) r j) = x (ix2 (n0 := 65536) (n1 := 128) r (Fin.ofNat 128 j.val)) := fun x =>
    extractStridedSlice_apply _ x _ _ _ fun a => by
      match a with
      | 0 => show r.val = 0 + r.val; omega
      | 1 => show j.val % 128 = 0 + j.val; omega
  have e1 : ∀ x : Vec Ideal S65536x128 .f32, extractStridedSlice S65536x127 ![0, 1] x slices_S65536x128_S65536x127_0_1
      (ix2 (n0 := 65536) (n1 := 127) r j) = x (ix2 (n0 := 65536) (n1 := 128) r (Fin.ofNat 128 (j.val + 1))) := fun x =>
    extractStridedSlice_apply _ x _ _ _ fun a => by
      match a with
      | 0 => show r.val = 0 + r.val; omega
      | 1 => show (j.val + 1) % 128 = 1 + j.val; omega
  show (extractStridedSlice S65536x127 ![0, 0] (weights V) slices_S65536x128_S65536x127_0_0 (ix2 (n0 := 65536) (n1 := 127) r j) : EReal)
    * ((extractStridedSlice S65536x127 ![0, 1] (depthsOf V) slices_S65536x128_S65536x127_0_1 (ix2 (n0 := 65536) (n1 := 127) r j) : EReal)
      - extractStridedSlice S65536x127 ![0, 0] (depthsOf V) slices_S65536x128_S65536x127_0_0 (ix2 (n0 := 65536) (n1 := 127) r j)) = _
  rw [e0, e0, e1, weights_read]
  rfl

/-- The running sums with the zero put in front. -/
def sums : Vec Ideal S65536x128 .f32 :=
  concatenate S65536x128 1 [⟨S65536x1, (broadcastInDim S65536x1 ![] bcast_S_S65536x1 (constant (F := Ideal) S_ .f32 0x00000000#32))⟩,
    ⟨S65536x127, (Host.reduceWindowAdd (F := Ideal) (φ := .f32) ![1, 127] ![1, 1] ![0, 126] ![0, 0] (terms V) (broadcastInDim S_ ![] bcast_S_S_ (constant (F := Ideal) S_ .f32 0x00000000#32)) reduceWindows_S65536x127_S65536x127_w1s1p0_0_w127s1p126_0 h_S_)⟩] concatenates_S65536x1_S65536x127_S65536x128_d1

/-- An array behind one more column, read in that column. -/
theorem glue_zero (x : Vec Ideal S65536x1 .f32) (y : Vec Ideal S65536x127 .f32) (r : Fin 65536) (hj : 0 < 128) :
    concatenate S65536x128 1 [⟨S65536x1, x⟩, ⟨S65536x127, y⟩] concatenates_S65536x1_S65536x127_S65536x128_d1
      (ix2 (n0 := 65536) (n1 := 128) r ⟨0, hj⟩) = x (ix2 (n0 := 65536) (n1 := 1) r 0) :=
  concatenate_pair_apply_left (t := S65536x128) (s₁ := S65536x1) (s₂ := S65536x127) 1 x y _ _ rfl _ fun b => by
    match b with
    | 0 => rfl
    | 1 => rfl

/-- An array behind one more column, read in one of its own. -/
theorem glue_succ (x : Vec Ideal S65536x1 .f32) (y : Vec Ideal S65536x127 .f32) (r : Fin 65536) (k : Nat) (hj : k + 1 < 128) :
    concatenate S65536x128 1 [⟨S65536x1, x⟩, ⟨S65536x127, y⟩] concatenates_S65536x1_S65536x127_S65536x128_d1
      (ix2 (n0 := 65536) (n1 := 128) r ⟨k + 1, hj⟩) = y (ix2 (n0 := 65536) (n1 := 127) r ⟨k, by omega⟩) :=
  concatenate_pair_apply_right (t := S65536x128) (s₁ := S65536x1) (s₂ := S65536x127) 1 x y _ _ rfl rfl _
    (fun b hb => by
      match b with
      | 0 => rfl
      | 1 => exact absurd rfl hb) rfl

/-- The reference's running sum is the ray's. -/
theorem sums_read (r : Fin 65536) (j : Fin 128) :
    sums V (ix2 (n0 := 65536) (n1 := 128) r j) = Ray.run (row (depthsOf V) r) (row (distsOf V) r) j.val := by
  unfold sums
  obtain ⟨j, hj⟩ := j
  cases j with
  | zero => exact (glue_zero _ _ r hj).trans word_zero
  | succ k =>
    refine (glue_succ _ _ r k hj).trans ?_
    rw [run_eq_sum]
    exact running (R := 65536) (K := 126) (terms V) _ _ _ word_zero
      (fun k => density (row (distsOf V) r k) * (row (depthsOf V) r (k + 1) - row (depthsOf V) r k)) r (terms_read V r) ⟨k, by omega⟩

/-- The reference's table is the ray's. -/
theorem v28_read (r : Fin 65536) (j : Fin 127) :
    res_main_v28 (F := Ideal) V (ix2 (n0 := 65536) (n1 := 127) r j) = cdf (row (depthsOf V) r) (row (distsOf V) r) j.val := by
  have hj := j.isLt
  have e : extractStridedSlice S65536x127 ![0, 0] (sums V) slices_S65536x128_S65536x127_0_0
      (ix2 (n0 := 65536) (n1 := 127) r j) = sums V (ix2 (n0 := 65536) (n1 := 128) r ⟨j.val, by omega⟩) :=
    extractStridedSlice_apply _ _ _ _ _ fun a => by
      match a with
      | 0 => show r.val = 0 + r.val; omega
      | 1 => show j.val = 0 + j.val; omega
  show (FloatOps.ofBits (F := Ideal) .f32 0x3F800000#32 : EReal)
    - Ideal.exp (-(extractStridedSlice S65536x127 ![0, 0] (sums V) slices_S65536x128_S65536x127_0_0 (ix2 (n0 := 65536) (n1 := 127) r j))) = _
  rw [e, sums_read, word_one]
  rfl

/-- The reference's positions are the kernel's. -/
theorem v30_read (r : Fin 65536) (q : Fin 64) :
    res_main_v30 (F := Ideal) V (ix2 (n0 := 65536) (n1 := 64) r q)
      = KernelIdeal.Hand.positions (F := Ideal) (ix1 (n0 := 64) q) := by
  unfold res_main_v30
  refine (broadcastInDim_apply _ _ _ _ (ix1 (n0 := 64) q) fun a => ?_).trans ?_
  · match a with
    | 0 => rfl
  · rfl

end Cert.Ray

end
-- ==== Proof.Pick.lean ====
/- Two readings of the host's operations, at any sizes: the entry that a gather along the rows of an array picks, and
   the number of entries below a bound that a sum of comparisons counts. -/
module

public import Idealize.ShloMosaic.PureOps.Reduce
public import Idealize.ShloMosaic.Lib.Pointwise.Index
public import Idealize.ShloMosaic.Lib.Pointwise.Reduce
public import Idealize.ShloMosaic.Lib.IndicatorCount
public import Idealize.ShloMosaic.Lib.ValueIdxCore

@[expose] public section

noncomputable section

namespace Cert.Ray

open Idealize.ShloMosaic

/-! ## The gather -/

section Along

variable {α : Type}

/-- The dimension numbers of a gather that picks, for each row, entries of that row. -/
abbrev alongDims (N C B : Nat)
    (wf : GatherDims.WF ⟨2, ![N, C]⟩ ⟨3, ![N, B, 1]⟩ ⟨2, ![N, B]⟩ [] [1] [0] [1] [0] 2 ![1, 1]) :
    GatherDims ⟨2, ![N, C]⟩ ⟨3, ![N, B, 1]⟩ ⟨2, ![N, B]⟩ where
  offsetDims := []
  collapsedSliceDims := [1]
  operandBatchingDims := [0]
  startIndicesBatchingDims := [0]
  startIndexMap := [1]
  indexVectorDim := 2
  sliceSizes := ![1, 1]
  wf := wf

/-- Such a gather at row `r`: the row's entry at the index word, when the word is a place of the row. -/
theorem along_read {N C B : Nat}
    (wf : GatherDims.WF ⟨2, ![N, C]⟩ ⟨3, ![N, B, 1]⟩ ⟨2, ![N, B]⟩ [] [1] [0] [1] [0] 2 ![1, 1])
    (x : (⟨2, ![N, C]⟩ : Shape).Idx → α) (idx : IVec ⟨3, ![N, B, 1]⟩ 32) (r : Fin N) (q : Fin B) (k : Fin C)
    (hk : (idx (ix3 r q 0)).toInt = k.val) : Host.gather (alongDims N C B wf) x idx (ix2 r q) = x (ix2 r k) := by
  have hC := k.isLt
  unfold Host.gather
  refine congrArg x (funext fun a => Fin.ext ?_)
  show (alongDims N C B wf).start (ix2 r q) idx a + (alongDims N C B wf).batchCoord (ix2 r q) a
      + (alongDims N C B wf).offCoord (ix2 r q) a = _
  have hoff : (alongDims N C B wf).offCoord (ix2 r q) a = 0 := by
    refine GatherDims.offCoord_eq_zero _ _ _ fun h => ?_
    have := (GatherDims.mem_sKept _ _).mp h
    match a with
    | 0 => exact this.2 (List.mem_singleton.mpr rfl)
    | 1 => exact this.1 (List.mem_singleton.mpr rfl)
  rw [hoff, Nat.add_zero]
  match a with
  | 0 =>
    rw [GatherDims.start_batching _ _ _ _ (List.mem_singleton.mpr rfl), Nat.zero_add]
    unfold GatherDims.batchCoord
    rw [dif_pos (List.mem_singleton.mpr rfl)]
    rfl
  | 1 =>
    rw [GatherDims.batchCoord_eq_zero _ _ _ (fun h => by simp at h), Nat.add_zero]
    unfold GatherDims.start
    rw [dif_pos (show (1 : Fin 2) ∈ (alongDims N C B wf).startIndexMap from List.mem_singleton.mpr rfl)]
    have hsi : (alongDims N C B wf).siIdx (ix2 r q) ⟨List.idxOf (1 : Fin 2) (alongDims N C B wf).startIndexMap,
        List.idxOf_lt_length_iff.2 (List.mem_singleton.mpr rfl)⟩ = ix3 r q 0 := by
      funext b
      refine Fin.ext ?_
      match b with
      | 0 => rfl
      | 1 => rfl
      | 2 => rfl
    rw [hsi, hk]
    show min (Int.toNat (k.val : Int)) (C - 1) = k.val
    rw [Int.toNat_natCast]
    omega

end Along

/-! ## The count -/

/-- A sum of comparisons along the last axis counts the ones. -/
theorem count_read {N B C : Nat} (p : IVec ⟨3, ![N, B, C]⟩ 1) (hw : 1 < 32)
    (h : (⟨3, ![N, B, C]⟩ : Shape).ReducesTo [2] ⟨2, ![N, B]⟩) (hu : 0 < (⟨0, ![]⟩ : Shape).numel) (r : Fin N) (q : Fin B) :
    Host.reduce IntOp.addi (extui 32 p hw) (constantI ⟨0, ![]⟩ 32 0#32) h hu (ix2 r q)
      = BitVec.ofNat 32 (Finset.univ.filter fun k : Fin C => p (ix3 r q k) = 1#1).card := by
  rw [Host.reduce_eq_fold, Shape.ReducesTo.fold_fiber_r3_a2]
  exact IndicatorCount.fold_addi_setWidth_eq_card (w := 32) (fun k : Fin C => p (ix3 r q k)) Finset.univ

end Cert.Ray

end
-- ==== Proof.RefPlace.lean ====
/- The places the reference looks up and what it reads there: the number of table entries below a position, the entries
   before and at that place, and the depths of the same two samples. -/
module

public import proofs.«01_k».proof.Proof.RefTable
public import proofs.«01_k».proof.Proof.Pick
public import Idealize.ShloMosaic.Lib.ReduceAll
public import Idealize.ShloMosaic.Lib.Pointwise.Select

@[expose] public section

noncomputable section

namespace Cert.Ray

open Cert.ReferenceIdeal Cert.ReferenceIdeal.Gen Cert.ReferenceIdeal.Value Idealize.ShloMosaic Idealize.SL.Sem

/-! ## Words that are places -/

/-- The place before place `c`, no lower than the first. -/
theorem before_word (c : Fin 128) : (IntOp.maxsi (IntOp.subi (BitVec.ofNat 32 c.val) 1#32) 0#32).toNat = c.val - 1 := by
  revert c
  decide

/-- Place `c`, no higher than the last. -/
theorem at_word (c : Fin 128) : (IntOp.minsi (BitVec.ofNat 32 c.val) 126#32).toNat = min c.val 126 := by
  revert c
  decide

/-- What the bounds test and the choice of a negative word's wrap say of a place. -/
theorem place_word (k : Fin 127) : IntOp.cmpi .slt (BitVec.ofNat 32 k.val) 0#32 = 0#1 ∧ IntOp.cmpi .sge (BitVec.ofNat 32 k.val) 0#32 = 1#1
    ∧ IntOp.cmpi .sle (BitVec.ofNat 32 k.val) 126#32 = 1#1 ∧ IntOp.cmpi .sle (BitVec.ofNat 32 k.val) 127#32 = 1#1
    ∧ (BitVec.ofNat 32 k.val).toInt = k.val := by
  revert k
  decide

/-- A word below 127 is that of a place. -/
theorem word_of_lt {w : BitVec 32} (h : w.toNat ≤ 126) : ∃ k : Fin 127, w = BitVec.ofNat 32 k.val :=
  ⟨⟨w.toNat, by omega⟩, BitVec.eq_of_toNat_eq (by simp)⟩

/-- A choice where the bit is one. -/
theorem select_one {s : Shape} {α : Type} (c : IVec s 1) (a b : s.Idx → α) (y : s.Idx) (h : c y = 1#1) : select c a b y = a y :=
  if_pos h

/-! ## Looking places up -/

section Look

variable (w : IVec S65536x64 32) (hw : ∀ y, (w y).toNat ≤ 126)

/-- The index words of a look-up: `w`, a negative word moved up by `n`. -/
def index (n : BitVec 32) : IVec S65536x64x1 32 :=
  shapeCast S65536x64x1 (select (cmpi .slt w (broadcastInDim S65536x64 ![] bcast_S_S65536x64 (constantI S_ 32 0#32)))
    (addi w (broadcastInDim S65536x64 ![] bcast_S_S65536x64 (constantI S_ 32 n))) w) shapeCasts_S65536x64_S65536x64x1

include hw in
/-- They are `w` where no word is negative. -/
theorem index_read (n : BitVec 32) (r : Fin 65536) (q : Fin 64) (z : Fin 1) :
    index w n (ix3 (n0 := 65536) (n1 := 64) (n2 := 1) r q z) = w (ix2 (n0 := 65536) (n1 := 64) r q) := by
  unfold index
  refine (shapeCast_apply _ _ _ (ix2 (n0 := 65536) (n1 := 64) r q) ?_).trans ?_
  · rw [Shape.rowMajor_val_two, Shape.rowMajor_val_three]
    show r.val * 64 + q.val = (r.val * 64 + q.val) * 1 + z.val
    have := z.isLt
    omega
  · obtain ⟨k, hk⟩ := word_of_lt (hw (ix2 (n0 := 65536) (n1 := 64) r q))
    show (if IntOp.cmpi .slt (w (ix2 (n0 := 65536) (n1 := 64) r q)) 0#32 = 1#1 then _ else w (ix2 (n0 := 65536) (n1 := 64) r q)) = _
    refine if_neg ?_
    rw [hk, (place_word k).1]
    decide

/-- The bounds test of a look-up whose last place is `m`. -/
def inside (n m : BitVec 32) : IVec S65536x64 1 :=
  Host.reduce IntOp.andi (andi (cmpi .sge (index w n) (broadcastInDim S65536x64x1 ![] bcast_S_S65536x64x1 (constantI S_ 32 0#32)))
    (cmpi .sle (index w n) (broadcastInDim S65536x64x1 ![0, 1, 2] bcast_S1x1x1_S65536x64x1_0_1_2 (broadcastInDim S1x1x1 ![2] bcast_S1_S1x1x1_2 (constantI S1 32 m)))))
    (constantI S_ 1 1#1) reducesTo_S65536x64x1_S65536x64_d2 h_S_

include hw in
/-- Every place is inside. -/
theorem inside_read (n m : BitVec 32) (hm : m = 126#32 ∨ m = 127#32) (y : S65536x64.Idx) : inside w n m y = 1#1 := by
  refine Host.reduce_andi_one _ _ _ _ _ rfl fun i => ?_
  obtain ⟨r, q, c, rfl⟩ : ∃ (r : Fin 65536) (q : Fin 64) (c : Fin 1), i = ix3 r q c := ⟨i 0, i 1, i 2, eq_ix3 i⟩
  generalize hi' : (ix3 r q c : S65536x64x1.Idx) = i
  obtain ⟨k, hk⟩ := word_of_lt (hw (ix2 (n0 := 65536) (n1 := 64) r q))
  have hi : index w n i = BitVec.ofNat 32 k.val := by
    rw [← hi', index_read w hw, hk]
  show IntOp.andi (IntOp.cmpi .sge (index w n i) 0#32) (IntOp.cmpi .sle (index w n i) m) = 1#1
  rw [hi, (place_word k).2.1]
  rcases hm with rfl | rfl
  · rw [(place_word k).2.2.1]; rfl
  · rw [(place_word k).2.2.2.1]; rfl

include hw in
/-- A look-up in a table of 127 columns. -/
theorem look127 (x : Vec Ideal S65536x127 .f32) (z : Vec Ideal S65536x64 .f32) (r : Fin 65536) (q : Fin 64) (k : Fin 127)
    (hk : (w (ix2 (n0 := 65536) (n1 := 64) r q)).toNat = k.val) :
    select (inside w 127#32 126#32) (Host.gather gather_S65536x127_S65536x64x1_S65536x64_n_1_0_0_1_2_11 x (index w 127#32)) z
      (ix2 (n0 := 65536) (n1 := 64) r q) = x (ix2 (n0 := 65536) (n1 := 127) r k) := by
  refine (select_one _ _ _ _ (inside_read w hw _ _ (.inl rfl) _)).trans ?_
  refine along_read (N := 65536) (C := 127) (B := 64) _ x (index w 127#32) r q k ?_
  rw [index_read w hw]
  obtain ⟨k', hk'⟩ := word_of_lt (hw (ix2 (n0 := 65536) (n1 := 64) r q))
  rw [hk'] at hk ⊢
  have e : k'.val = k.val := by
    have := k'.isLt
    rw [BitVec.toNat_ofNat] at hk
    omega
  rw [(place_word k').2.2.2.2, e]

include hw in
/-- A look-up in a table of 128 columns. -/
theorem look128 (x : Vec Ideal S65536x128 .f32) (z : Vec Ideal S65536x64 .f32) (r : Fin 65536) (q : Fin 64) (k : Fin 128)
    (hk : (w (ix2 (n0 := 65536) (n1 := 64) r q)).toNat = k.val) :
    select (inside w 128#32 127#32) (Host.gather gather_S65536x128_S65536x64x1_S65536x64_n_1_0_0_1_2_11 x (index w 128#32)) z
      (ix2 (n0 := 65536) (n1 := 64) r q) = x (ix2 (n0 := 65536) (n1 := 128) r k) := by
  refine (select_one _ _ _ _ (inside_read w hw _ _ (.inr rfl) _)).trans ?_
  refine along_read (N := 65536) (C := 128) (B := 64) _ x (index w 128#32) r q k ?_
  rw [index_read w hw]
  obtain ⟨k', hk'⟩ := word_of_lt (hw (ix2 (n0 := 65536) (n1 := 64) r q))
  rw [hk'] at hk ⊢
  have e : k'.val = k.val := by
    have := k'.isLt
    rw [BitVec.toNat_ofNat] at hk
    omega
  rw [(place_word k').2.2.2.2, e]

end Look

/-! ## The reference's places -/

variable (V : Valuation τ sig (Elt Ideal))

/-- The position of column `q`. -/
def posAt (q : Fin 64) : EReal := KernelIdeal.Hand.positions (F := Ideal) (ix1 (n0 := 64) q)

/-- The number of entries of ray `r`'s table below the position of column `q`. -/
def count (r : Fin 65536) (q : Fin 64) : Nat :=
  (Finset.univ.filter fun k : Fin 127 => cdf (row (depthsOf V) r) (row (distsOf V) r) k.val < posAt q).card

/-- There are 127 entries to count. -/
theorem count_lt (r : Fin 65536) (q : Fin 64) : count V r q < 128 :=
  Nat.lt_succ_of_le ((Finset.card_le_univ _).trans (le_of_eq (Fintype.card_fin 127)))

/-- The comparisons the reference sums. -/
def belows : IVec S65536x64x127 1 :=
  cmpf (F := Ideal) (φ := .f32) .olt (broadcastInDim S65536x64x127 ![0, 1, 2] bcast_S65536x1x127_S65536x64x127_0_1_2 (broadcastInDim S65536x1x127 ![0, 2] bcast_S65536x127_S65536x1x127_0_2 (res_main_v28 (F := Ideal) V)))
    (broadcastInDim S65536x64x127 ![0, 1, 2] bcast_S65536x64x1_S65536x64x127_0_1_2 (broadcastInDim S65536x64x1 ![0, 1] bcast_S65536x64_S65536x64x1_0_1 (res_main_v30 (F := Ideal) V)))

/-- A comparison at an entry. -/
theorem belows_read (r : Fin 65536) (q : Fin 64) (k : Fin 127) :
    belows V (ix3 (n0 := 65536) (n1 := 64) (n2 := 127) r q k) = 1#1
      ↔ cdf (row (depthsOf V) r) (row (distsOf V) r) k.val < posAt q := by
  have e1 : broadcastInDim S65536x64x127 ![0, 1, 2] bcast_S65536x1x127_S65536x64x127_0_1_2 (broadcastInDim S65536x1x127 ![0, 2] bcast_S65536x127_S65536x1x127_0_2 (res_main_v28 (F := Ideal) V))
      (ix3 (n0 := 65536) (n1 := 64) (n2 := 127) r q k) = res_main_v28 (F := Ideal) V (ix2 (n0 := 65536) (n1 := 127) r k) := by
    refine (broadcastInDim_apply _ _ _ _ (ix3 (n0 := 65536) (n1 := 1) (n2 := 127) r 0 k) fun a => ?_).trans
      (broadcastInDim_apply _ _ _ _ _ fun a => ?_)
    · match a with
      | 0 => rfl
      | 1 => rfl
      | 2 => rfl
    · match a with
      | 0 => rfl
      | 1 => rfl
  have e2 : broadcastInDim S65536x64x127 ![0, 1, 2] bcast_S65536x64x1_S65536x64x127_0_1_2 (broadcastInDim S65536x64x1 ![0, 1] bcast_S65536x64_S65536x64x1_0_1 (res_main_v30 (F := Ideal) V))
      (ix3 (n0 := 65536) (n1 := 64) (n2 := 127) r q k) = res_main_v30 (F := Ideal) V (ix2 (n0 := 65536) (n1 := 64) r q) := by
    refine (broadcastInDim_apply _ _ _ _ (ix3 (n0 := 65536) (n1 := 64) (n2 := 1) r q 0) fun a => ?_).trans
      (broadcastInDim_apply _ _ _ _ _ fun a => ?_)
    · match a with
      | 0 => rfl
      | 1 => rfl
      | 2 => rfl
    · match a with
      | 0 => rfl
      | 1 => rfl
  unfold belows
  show Ideal.cmp .olt (broadcastInDim S65536x64x127 ![0, 1, 2] bcast_S65536x1x127_S65536x64x127_0_1_2 (broadcastInDim S65536x1x127 ![0, 2] bcast_S65536x127_S65536x1x127_0_2 (res_main_v28 (F := Ideal) V))
      (ix3 (n0 := 65536) (n1 := 64) (n2 := 127) r q k))
    (broadcastInDim S65536x64x127 ![0, 1, 2] bcast_S65536x64x1_S65536x64x127_0_1_2 (broadcastInDim S65536x64x1 ![0, 1] bcast_S65536x64_S65536x64x1_0_1 (res_main_v30 (F := Ideal) V))
      (ix3 (n0 := 65536) (n1 := 64) (n2 := 127) r q k)) = 1#1 ↔ _
  rw [e1, e2, v28_read, v30_read]
  exact Ideal.cmp_olt_eq_one _ _

/-- The reference's count, as a word. -/
theorem v37_read (r : Fin 65536) (q : Fin 64) :
    res_main_v37 (F := Ideal) V (ix2 (n0 := 65536) (n1 := 64) r q) = BitVec.ofNat 32 (count V r q) := by
  refine (count_read (N := 65536) (B := 64) (C := 127) (belows V) natLt_1_32 reducesTo_S65536x64x127_S65536x64_d2 h_S_ r q).trans ?_
  refine congrArg (BitVec.ofNat 32) (congrArg Finset.card (Finset.filter_congr fun k _ => ?_))
  exact belows_read V r q k

/-- The lower place. -/
theorem v41_read (r : Fin 65536) (q : Fin 64) :
    (res_main_v41 (F := Ideal) V (ix2 (n0 := 65536) (n1 := 64) r q)).toNat = count V r q - 1 := by
  show (IntOp.maxsi (IntOp.subi (res_main_v37 (F := Ideal) V (ix2 (n0 := 65536) (n1 := 64) r q)) 1#32) 0#32).toNat = _
  rw [v37_read]
  exact before_word ⟨count V r q, count_lt V r q⟩

/-- The upper place. -/
theorem v43_read (r : Fin 65536) (q : Fin 64) :
    (res_main_v43 (F := Ideal) V (ix2 (n0 := 65536) (n1 := 64) r q)).toNat = min (count V r q) 126 := by
  show (IntOp.minsi (res_main_v37 (F := Ideal) V (ix2 (n0 := 65536) (n1 := 64) r q)) 126#32).toNat = _
  rw [v37_read]
  exact at_word ⟨count V r q, count_lt V r q⟩

/-- Every lower place is one of the table. -/
theorem v41_le (y : S65536x64.Idx) : (res_main_v41 (F := Ideal) V y).toNat ≤ 126 := by
  obtain ⟨r, q, rfl⟩ : ∃ (r : Fin 65536) (q : Fin 64), y = ix2 r q := ⟨y 0, y 1, eq_ix2 y⟩
  rw [v41_read]
  have := count_lt V r q
  omega

/-- Every upper place is one of the table. -/
theorem v43_le (y : S65536x64.Idx) : (res_main_v43 (F := Ideal) V y).toNat ≤ 126 := by
  obtain ⟨r, q, rfl⟩ : ∃ (r : Fin 65536) (q : Fin 64), y = ix2 r q := ⟨y 0, y 1, eq_ix2 y⟩
  rw [v43_read]
  omega

end Cert.Ray

end
-- ==== Proof.Algebraic.lean ====
/- Over the extended reals the kernel and the reference leave the same result, on depths that do not decrease along a
   ray. -/
module

public import proofs.«01_k».proof.Proof.RefPlace
public import proofs.«01_k».proof.Proof.Frames

@[expose] public section

noncomputable section

namespace Cert.Ray

open Cert.ReferenceIdeal Cert.ReferenceIdeal.Gen Cert.ReferenceIdeal.Value Idealize.ShloMosaic Idealize.SL.Sem

section Reference

variable (V : Valuation τ sig (Elt Ideal))

/-- The depths at the upper places. -/
def above : Vec Ideal S65536x64 .f32 :=
  select (inside (res_main_v43 (F := Ideal) V) 128#32 127#32) (Host.gather gather_S65536x128_S65536x64x1_S65536x64_n_1_0_0_1_2_11 (depthsOf V) (index (res_main_v43 (F := Ideal) V) 128#32))
    (broadcastInDim S65536x64 ![] bcast_S_S65536x64 (constant (F := Ideal) S_ .f32 0x7FC00000#32))

/-- The table's entries at the upper places. -/
def aboveTable : Vec Ideal S65536x64 .f32 :=
  select (inside (res_main_v43 (F := Ideal) V) 127#32 126#32) (Host.gather gather_S65536x127_S65536x64x1_S65536x64_n_1_0_0_1_2_11 (res_main_v28 (F := Ideal) V) (index (res_main_v43 (F := Ideal) V) 127#32))
    (broadcastInDim S65536x64 ![] bcast_S_S65536x64 (constant (F := Ideal) S_ .f32 0x7FC00000#32))

/-- The reference's result. -/
def refResult : Vec Ideal S65536x64 .f32 :=
  addf (F := Ideal) (φ := .f32) (res_main_v46 (F := Ideal) V) (mulf (F := Ideal) (φ := .f32) (Host.divf (F := Ideal) (φ := .f32) (subf (F := Ideal) (φ := .f32) (res_main_v30 (F := Ideal) V) (res_main_v44 (F := Ideal) V))
    (select (cmpf (F := Ideal) (φ := .f32) .olt (res_main_v48 (F := Ideal) V) (broadcastInDim S65536x64 ![] bcast_S_S65536x64 (constant (F := Ideal) S_ .f32 0x3727C5AC#32))) (broadcastInDim S65536x64 ![] bcast_S_S65536x64 (constant (F := Ideal) S_ .f32 0x3F800000#32)) (res_main_v48 (F := Ideal) V)))
    (subf (F := Ideal) (φ := .f32) (above V) (res_main_v46 (F := Ideal) V)))

variable (r : Fin 65536) (q : Fin 64)

/-- The table's entry at the lower place. -/
theorem v44_read : res_main_v44 (F := Ideal) V (ix2 (n0 := 65536) (n1 := 64) r q)
    = cdf (row (depthsOf V) r) (row (distsOf V) r) (count V r q - 1) := by
  have hc := count_lt V r q
  exact (look127 (res_main_v41 (F := Ideal) V) (v41_le V) (res_main_v28 (F := Ideal) V) _ r q ⟨count V r q - 1, by omega⟩
    (v41_read V r q)).trans (v28_read V r _)

/-- The table's entry at the upper place. -/
theorem aboveTable_read : aboveTable V (ix2 (n0 := 65536) (n1 := 64) r q)
    = cdf (row (depthsOf V) r) (row (distsOf V) r) (min (count V r q) 126) :=
  (look127 (res_main_v43 (F := Ideal) V) (v43_le V) (res_main_v28 (F := Ideal) V) _ r q ⟨min (count V r q) 126, by omega⟩
    (v43_read V r q)).trans (v28_read V r _)

/-- The depth at a place. -/
theorem depth_at (k : Fin 128) : depthsOf V (ix2 (n0 := 65536) (n1 := 128) r k) = row (depthsOf V) r k.val :=
  congrArg (fun j => depthsOf V (ix2 (n0 := 65536) (n1 := 128) r j)) (Fin.ext (Nat.mod_eq_of_lt k.isLt).symm)

/-- The depth at the lower place. -/
theorem v46_read : res_main_v46 (F := Ideal) V (ix2 (n0 := 65536) (n1 := 64) r q) = row (depthsOf V) r (count V r q - 1) := by
  have hc := count_lt V r q
  exact (look128 (res_main_v41 (F := Ideal) V) (v41_le V) (depthsOf V) _ r q ⟨count V r q - 1, by omega⟩
    (v41_read V r q)).trans (depth_at V r _)

/-- The depth at the upper place. -/
theorem above_read : above V (ix2 (n0 := 65536) (n1 := 64) r q) = row (depthsOf V) r (min (count V r q) 126) :=
  (look128 (res_main_v43 (F := Ideal) V) (v43_le V) (depthsOf V) _ r q ⟨min (count V r q) 126, by omega⟩
    (v43_read V r q)).trans (depth_at V r _)

/-- The widths between the two entries, as the difference of the two look-ups. -/
theorem v48_eq : res_main_v48 (F := Ideal) V = subf (F := Ideal) (φ := .f32) (aboveTable V) (res_main_v44 (F := Ideal) V) := by
  unfold res_main_v48 aboveTable inside index res_main_call4_v5
  rfl

/-- A difference at an entry. -/
theorem subf_read (a b : Vec Ideal S65536x64 .f32) (y : S65536x64.Idx) :
    subf (F := Ideal) (φ := .f32) a b y = (a y : EReal) - (b y : EReal) := rfl

/-- The width between the two entries. -/
theorem v48_read : res_main_v48 (F := Ideal) V (ix2 (n0 := 65536) (n1 := 64) r q)
    = cdf (row (depthsOf V) r) (row (distsOf V) r) (min (count V r q) 126)
      - cdf (row (depthsOf V) r) (row (distsOf V) r) (count V r q - 1) := by
  rw [v48_eq, subf_read, aboveTable_read, v44_read]

/-- The reference's interpolation at an entry. -/
theorem blend_read (u c0 w b0 b1 : Vec Ideal S65536x64 .f32) (y : S65536x64.Idx) :
    addf (F := Ideal) (φ := .f32) b0 (mulf (F := Ideal) (φ := .f32) (Host.divf (F := Ideal) (φ := .f32) (subf (F := Ideal) (φ := .f32) u c0)
      (select (cmpf (F := Ideal) (φ := .f32) .olt w (broadcastInDim S65536x64 ![] bcast_S_S65536x64 (constant (F := Ideal) S_ .f32 0x3727C5AC#32))) (broadcastInDim S65536x64 ![] bcast_S_S65536x64 (constant (F := Ideal) S_ .f32 0x3F800000#32)) w))
      (subf (F := Ideal) (φ := .f32) b1 b0)) y
      = (b0 y : EReal) + Ideal.div ((u y : EReal) - (c0 y : EReal)) (if (w y : EReal) < eps then 1 else w y) * ((b1 y : EReal) - (b0 y : EReal)) := by
  show (b0 y : EReal) + Ideal.div ((u y : EReal) - (c0 y : EReal))
    (if BitVec.ofBool (decide ((w y : EReal) < eps)) = 1#1 then FloatOps.ofBits (F := Ideal) .f32 0x3F800000#32 else w y)
    * ((b1 y : EReal) - (b0 y : EReal)) = _
  rw [word_one]
  by_cases h : (w y : EReal) < eps
  · simp [h]
  · simp [h]

/-- The reference's result at ray `r` and position `q`. -/
theorem refResult_read : refResult V (ix2 (n0 := 65536) (n1 := 64) r q)
    = sampled eps (row (depthsOf V) r) (row (distsOf V) r) (posAt q) (count V r q) := by
  unfold refResult
  refine (blend_read _ _ _ _ _ _).trans ?_
  rw [v46_read, v30_read, v44_read, v48_read, above_read]
  rfl

end Reference

/-- What the precondition says of a ray: the differences of its depths are not negative. -/
theorem increase (D S : Vec Ideal S65536x128 .f32)
    (h : Cert.Pre_depths_increase.fn (F := Ideal) D S = fun _ => 1#1) (r : Fin 65536) :
    ∀ j < 127, 0 ≤ row D r (j + 1) - row D r j := by
  intro j hj
  haveI : Subsingleton S_.Idx := ⟨fun a b => funext fun k => k.elim0⟩
  have hall := Host.reduce_andi_all _ _ _ _ _ (congrFun h (Shape.Idx.first h_S_)) (ix2 (n0 := 65536) (n1 := 127) r ⟨j, hj⟩)
  have e0 : extractStridedSlice S65536x127 ![0, 0] D slices_S65536x128_S65536x127_0_0
      (ix2 (n0 := 65536) (n1 := 127) r ⟨j, hj⟩) = row D r j :=
    extractStridedSlice_apply _ D _ _ _ fun a => by
      match a with
      | 0 => show r.val = 0 + r.val; omega
      | 1 => show j % 128 = 0 + j; omega
  have e1 : extractStridedSlice S65536x127 ![0, 1] D slices_S65536x128_S65536x127_0_1
      (ix2 (n0 := 65536) (n1 := 127) r ⟨j, hj⟩) = row D r (j + 1) :=
    extractStridedSlice_apply _ D _ _ _ fun a => by
      match a with
      | 0 => show r.val = 0 + r.val; omega
      | 1 => show (j + 1) % 128 = 1 + j; omega
  change Ideal.cmp .oge ((extractStridedSlice S65536x127 ![0, 1] D slices_S65536x128_S65536x127_0_1
      (ix2 (n0 := 65536) (n1 := 127) r ⟨j, hj⟩) : EReal) - extractStridedSlice S65536x127 ![0, 0] D slices_S65536x128_S65536x127_0_0
      (ix2 (n0 := 65536) (n1 := 127) r ⟨j, hj⟩)) (FloatOps.ofBits (F := Ideal) .f32 0x00000000#32) = 1#1 at hall
  rw [e0, e1, word_zero] at hall
  exact (Ideal.cmp_oge_eq_one _ _).mp hall

/-- The two results are one. -/
theorem results_eq (V : Valuation τ sig (Elt Ideal)) (h : Cert.Pre_depths_increase.fn (F := Ideal) (depthsOf V) (distsOf V) = fun _ => 1#1) :
    refResult V = KernelIdeal.Hand.result (F := Ideal) (depthsOf V) (distsOf V) (KernelIdeal.Hand.positions (F := Ideal)) := by
  funext y
  obtain ⟨r, q, rfl⟩ : ∃ (r : Fin 65536) (q : Fin 64), y = ix2 r q := ⟨y 0, y 1, eq_ix2 y⟩
  rw [refResult_read, result_read]
  exact congrArg (sampled eps (row (depthsOf V) r) (row (distsOf V) r) (posAt q))
    (seek_cdf (increase (depthsOf V) (distsOf V) h r) (posAt q)).symm

end Cert.Ray

namespace Cert.Proof

open Idealize.ShloMosaic Idealize.SL.Sem Cert.KernelIdeal.Hand

/-- From memories with the same inputs, depths not decreasing, the kernel and the reference end with the same result. -/
theorem algebraic : Cert.algebraic_KernelIdeal_ReferenceIdeal_pre_depths_increase := by
  intro m ρ m' ρ' hpre hagree
  refine ⟨fun c => final (F := Ideal) m c, (θ_run Cert.KernelIdeal.defs _ _).mono (fun _ h c => h.1 c) (run_ideal m ρ), ?_⟩
  refine (θ_run Cert.ReferenceIdeal.defs _ _).mono (fun _ h c => ⟨(h c).1.trans ?_, (h c).2⟩) (Cert.ReferenceIdeal.Value.run (F := Ideal) m' ρ')
  have h0 : Ray.depthsOf (StableHlo.launchContents m' c) = depths (F := Ideal) m c := (hagree c).1
  have h1 : Ray.distsOf (StableHlo.launchContents m' c) = dists (F := Ideal) m c := (hagree c).2
  refine (Ray.results_eq (StableHlo.launchContents m' c) ?_).trans ?_
  · rw [h0, h1]
    exact hpre c
  · rw [h0, h1]
    rfl

end Cert.Proof

end
-- ==== Proof.lean ====
/- The certificate: every claim of it, proved in the modules imported here. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate: the three programs' frames, that the ideal program is the kernel, and that the kernel
    and the reference compute the same function over the extended reals. -/
theorem claim : Cert.Claim := ⟨Cert.Kernel.Gen.facts, Cert.KernelIdeal.Gen.facts, Cert.ReferenceIdeal.Gen.facts,
  Cert.Pre_depths_increase.Gen.facts, frame_kernel, frame_kernelIdeal, frame_kernelIdeal_pre, frame_reference,
  frame_reference_pre, preserves, algebraic⟩

end Cert.Proof

end
